-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_inputs_ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x512x512 : S_.BroadcastsInDim S2x512x512 (![] : Fin 0 → Fin S2x512x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x512x512 .bf16) (main_arg1 : FVec F S512x256 .bf16) (main_arg2 : FVec F S2x512x4x64 .bf16) (main_arg3 : FVec F S2x512x4x64 .bf16) (main_arg4 : FVec F S256x512 .bf16) : IVec S2x512x512 1 × IVec S512x256 1 × IVec S2x512x4x64 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x512x4x64 .bf16 := Host.absf main_arg2
  let main_cst_1 : FVec F S_ .bf16 := constant S_ .bf16 0x7F80#16
  let main_v7 : FVec F S2x512x4x64 .bf16 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S3x2x4x128x64 : Shape := ⟨5, ![3, 2, 4, 128, 64]⟩
abbrev S4 : Shape := ⟨1, ![4]⟩
abbrev S_ : Shape := ⟨0, ![]⟩
abbrev S1x128x1x64 : Shape := ⟨4, ![1, 128, 1, 64]⟩
abbrev S128x64 : Shape := ⟨2, ![128, 64]⟩
abbrev S1x1x1x128x64 : Shape := ⟨5, ![1, 1, 1, 128, 64]⟩
abbrev S1 : Shape := ⟨1, ![1]⟩
abbrev S1x2x4x128x64 : Shape := ⟨5, ![1, 2, 4, 128, 64]⟩
abbrev S2x4x128x64 : Shape := ⟨4, ![2, 4, 128, 64]⟩
abbrev S256x256 : Shape := ⟨2, ![256, 256]⟩
abbrev S128x384 : Shape := ⟨2, ![128, 384]⟩
abbrev S3x1x1x128x64 : Shape := ⟨5, ![3, 1, 1, 128, 64]⟩
abbrev S3x128x64 : Shape := ⟨3, ![3, 128, 64]⟩
abbrev S384x64 : Shape := ⟨2, ![384, 64]⟩
abbrev S128 : Shape := ⟨1, ![128]⟩
abbrev S128x1 : Shape := ⟨2, ![128, 1]⟩
abbrev S128x256 : Shape := ⟨2, ![128, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S3x2x4x128x64, .bf16⟩
  | .local _ .vmem, ⟨7, _⟩ => ⟨S3x2x4x128x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_92 : BitVec 32 := 1#32
  let v71 : BitVec 32 := Scalar.muli v14 c1_i32_92
  let v72 : BitVec 32 := Scalar.addi c0_i32_93 v71
  v72.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_106 : BitVec 32 := 1#32
  let v81 : BitVec 32 := Scalar.muli v25 c1_i32_106
  let v82 : BitVec 32 := Scalar.addi c0_i32_107 v81
  v82.toNat
def k0_dev5 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_192 : BitVec 32 := 1#32
  let v131 : BitVec 32 := Scalar.muli v14 c1_i32_192
  let v132 : BitVec 32 := Scalar.addi c0_i32_193 v131
  v132.toNat
def k0_dev6 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_205 : BitVec 32 := 1#32
  let v141 : BitVec 32 := Scalar.muli v25 c1_i32_205
  let v142 : BitVec 32 := Scalar.addi c0_i32_206 v141
  v142.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S2x512x256 : Shape := ⟨3, ![2, 512, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x4x512x512 : Shape := ⟨4, ![2, 4, 512, 512]⟩
abbrev S1x1x512x512 : Shape := ⟨4, ![1, 1, 512, 512]⟩
abbrev S2x4x512 : Shape := ⟨3, ![2, 4, 512]⟩
abbrev S2x4x512x1 : Shape := ⟨4, ![2, 4, 512, 1]⟩
abbrev S1x1x512x1 : Shape := ⟨4, ![1, 1, 512, 1]⟩
abbrev S2x4x64x512 : Shape := ⟨4, ![2, 4, 64, 512]⟩

abbrev nBuf : Space → Nat
  | .hbm => 62
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x512x256, .f32⟩
  | .hbm, ⟨6, _⟩ => ⟨S2x512x256, .bf16⟩
  | .hbm, ⟨7, _⟩ => ⟨S2x512x4x64, .bf16⟩
  | .hbm, ⟨8, _⟩ => ⟨S512, .i32⟩
  | .hbm, ⟨9, _⟩ => ⟨S512x1, .i32⟩
  | .hbm, ⟨10, _⟩ => ⟨S512, .i32⟩
  | .hbm, ⟨11, _⟩ => ⟨S1x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S2x4x512x512, .f32⟩
  | .hbm, ⟨20, _⟩ => ⟨S2x4x512x512, .bf16⟩
  | .hbm, ⟨21, _⟩ => ⟨S2x4x512x512, .f32⟩
  | .hbm, ⟨22, _⟩ => ⟨S_, .f32⟩
  | .hbm, ⟨23, _⟩ => ⟨S2x4x512x512, .f32⟩
  | .hbm, ⟨24, _⟩ => ⟨S2x4x512x512, .f32⟩
  | .hbm, ⟨25, _⟩ => ⟨S1x1x512x512, .i1⟩
  | .hbm, ⟨26, _⟩ => ⟨S_, .f32⟩
  | .hbm, ⟨27, _⟩ => ⟨S_, .f32⟩
  | .hbm, ⟨28, _⟩ => ⟨S2x4x512x512, .i1⟩
  | .hbm, ⟨29, _⟩ => ⟨S2x4x512x512, .f32⟩
  | .hbm, ⟨30, _⟩ => ⟨S2x4x512x512, .f32⟩
  | .hbm, ⟨31, _⟩ => ⟨S_, .f32⟩
  | .hbm, ⟨32, _⟩ => ⟨S2x4x512, .f32⟩
  | .hbm, ⟨33, _⟩ => ⟨S2x4x512x1, .f32⟩
  | .hbm, ⟨34, _⟩ => ⟨S2x4x512x512, .f32⟩
  | .hbm, ⟨35, _⟩ => ⟨S2x4x512x512, .f32⟩
  | .hbm, ⟨36, _⟩ => ⟨S2x4x512x512, .f32⟩
  | .hbm, ⟨37, _⟩ => ⟨S_, .i1⟩
  | .hbm, ⟨38, _⟩ => ⟨S512, .i1⟩
  | .hbm, ⟨39, _⟩ => ⟨S1x1x512x1, .i1⟩
  | .hbm, ⟨40, _⟩ => ⟨S_, .f32⟩
  | .hbm, ⟨41, _⟩ => ⟨S2x4x512, .f32⟩
  | .hbm, ⟨42, _⟩ => ⟨S2x4x512x1, .f32⟩
  | .hbm, ⟨43, _⟩ => ⟨S_, .f32⟩
  | .hbm, ⟨44, _⟩ => ⟨S_, .f32⟩
  | .hbm, ⟨45, _⟩ => ⟨S2x4x512x1, .i1⟩
  | .hbm, ⟨46, _⟩ => ⟨S2x4x512x1, .f32⟩
  | .hbm, ⟨47, _⟩ => ⟨S2x4x512x1, .f32⟩
  | .hbm, ⟨48, _⟩ => ⟨S2x4x512x512, .f32⟩
  | .hbm, ⟨49, _⟩ => ⟨S2x4x512x512, .f32⟩
  | .hbm, ⟨50, _⟩ => ⟨S1x1x512x1, .i1⟩
  | .hbm, ⟨51, _⟩ => ⟨S_, .f32⟩
  | .hbm, ⟨52, _⟩ => ⟨S_, .f32⟩
  | .hbm, ⟨53, _⟩ => ⟨S2x4x512x512, .i1⟩
  | .hbm, ⟨54, _⟩ => ⟨S2x4x512x512, .f32⟩
  | .hbm, ⟨55, _⟩ => ⟨S2x4x512x512, .f32⟩
  | .hbm, ⟨56, _⟩ => ⟨S2x512x4x64, .f32⟩
  | .hbm, ⟨57, _⟩ => ⟨S2x4x64x512, .f32⟩
  | .hbm, ⟨58, _⟩ => ⟨S2x512x4x64, .f32⟩
  | .hbm, ⟨59, _⟩ => ⟨S2x512x256, .f32⟩
  | .hbm, ⟨60, _⟩ => ⟨S256x512, .f32⟩
  | .hbm, ⟨61, _⟩ => ⟨S2x512x512, .f32⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Slots.lean ====
/-
# The halo buffers: three slots, what a view of a slot reads and writes, and what the stores leave in slot 1

A halo buffer has shape `[3, 2, 4, 128, 64]`: slot, batch, head, row, feature. The kernel addresses it in three ways —
a whole slot through a slice with the leading axis squeezed (the transfers), one head of slot 1 through a rectangle
(the stores), and one head of all three slots (the loads). This module says which elements each of them names.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Halo

open Cert.KernelIdeal Cert.KernelIdeal.Gen
open Idealize.ShloMosaic Idealize.ShloMosaic.TcCoe Idealize.ShloMosaic.ValueIdx

variable {F : FTy → Type} [FloatOps F] [Named F]

/-- The K halo buffer as the body's argument. -/
abbrev kM : Memref sig .tc .vmem S3x2x4x128x64 .bf16 := Memref.whole cc0_scratch0
/-- The V halo buffer as the body's argument. -/
abbrev vM : Memref sig .tc .vmem S3x2x4x128x64 .bf16 := Memref.whole cc0_scratch1

/-- The elements of slot `s`. -/
def slotSet (s : ℕ) : Finset S3x2x4x128x64.Idx := Finset.univ.filter fun i => (i 0).val = s

theorem mem_slotSet (s : ℕ) (i : S3x2x4x128x64.Idx) : i ∈ slotSet s ↔ (i 0).val = s := by
  simp only [slotSet, Finset.mem_filter, Finset.mem_univ, true_and]
theorem ix5_of_mem {s : ℕ} (hs : s < 3) {i : S3x2x4x128x64.Idx} (hi : i ∈ slotSet s) :
    i = (ix5 ⟨s, hs⟩ (i 1) (i 2) (i 3) (i 4) : S3x2x4x128x64.Idx) := by
  have e0 : @Eq (Fin 3) (i 0) ⟨s, hs⟩ := Fin.ext ((mem_slotSet s i).1 hi)
  rw [← e0]; exact eq_ix5 i

theorem inb_slot (s : ℕ) (hs : s < 3) : ∀ a, (![s, 0, 0, 0, 0] : Fin 5 → Nat) a + S1x2x4x128x64.size a ≤ S3x2x4x128x64.size a := by
  interval_cases s <;> decide

/-- The rectangle of slot `s`. -/
abbrev slotR (s : ℕ) (hs : s < 3) : Rect S3x2x4x128x64 := Rect.unit (s := S3x2x4x128x64) ![s, 0, 0, 0, 0] S1x2x4x128x64.size (inb_slot s hs)

/-- A squeezed slot's index `(b, h, j, d)` is the buffer's `(s, b, h, j, d)`. -/
theorem slot_emb (s : ℕ) (hs : s < 3) (hn : S2x4x128x64.numel = S1x2x4x128x64.numel) (x : S2x4x128x64.Idx) :
    (slotR s hs).emb (Shape.reshapeEquiv hn x) = ix5 ⟨s, hs⟩ (x 0) (x 1) (x 2) (x 3) := by
  have h1 : Shape.reshapeEquiv hn x = (ix5 0 (x 0) (x 1) (x 2) (x 3) : S1x2x4x128x64.Idx) := by
    apply Shape.reshapeEquiv_eq_of_rowMajor
    rw [Shape.rowMajor_val_five, Shape.rowMajor_val_four]
    show (((0 * 2 + (x 0).val) * 4 + (x 1).val) * 128 + (x 2).val) * 64 + (x 3).val = (((x 0).val * 4 + (x 1).val) * 128 + (x 2).val) * 64 + (x 3).val
    ring
  rw [h1]
  funext a
  apply Fin.ext
  rw [Rect.emb_apply]
  match a with
  | ⟨0, _⟩ => show s + 1 * 0 = s; omega
  | ⟨1, _⟩ => show 0 + 1 * (x 0).val = (x 0).val; omega
  | ⟨2, _⟩ => show 0 + 1 * (x 1).val = (x 1).val; omega
  | ⟨3, _⟩ => show 0 + 1 * (x 2).val = (x 2).val; omega
  | ⟨4, _⟩ => show 0 + 1 * (x 3).val = (x 3).val; omega

/-- The elements a squeezed slot names are the slot. -/
theorem slot_map (s : ℕ) (hs : s < 3) (hn : S2x4x128x64.numel = S1x2x4x128x64.numel) :
    Finset.univ.map ((Shape.reshapeEquiv hn).toEmbedding.trans (slotR s hs).emb) = slotSet s := by
  ext i
  simp only [Finset.mem_map, Finset.mem_univ, true_and, mem_slotSet, Function.Embedding.trans_apply, Equiv.coe_toEmbedding]
  constructor
  · rintro ⟨x, rfl⟩
    rw [slot_emb]
  · intro h
    refine ⟨ix4 (i 1) (i 2) (i 3) (i 4), ?_⟩
    rw [slot_emb]
    exact (ix5_of_mem hs ((mem_slotSet s i).2 h)).symm

/-- Slot `s` of the K buffer, as the transfers name it. -/
abbrev kslot (s : ℕ) (hs : s < 3) : Memref sig .tc .vmem S2x4x128x64 .bf16 :=
  (kM.slice (slotR s hs) (fun _ => rfl)).squeeze S2x4x128x64 squeezes_S1x2x4x128x64_S2x4x128x64
/-- Slot `s` of the V buffer, as the transfers name it. -/
abbrev vslot (s : ℕ) (hs : s < 3) : Memref sig .tc .vmem S2x4x128x64 .bf16 :=
  (vM.slice (slotR s hs) (fun _ => rfl)).squeeze S2x4x128x64 squeezes_S1x2x4x128x64_S2x4x128x64

theorem kslot_emb (s : ℕ) (hs : s < 3) (x : S2x4x128x64.Idx) : (kslot s hs).view.emb x = (ix5 ⟨s, hs⟩ (x 0) (x 1) (x 2) (x 3) : S3x2x4x128x64.Idx) :=
  slot_emb s hs _ x
theorem vslot_emb (s : ℕ) (hs : s < 3) (x : S2x4x128x64.Idx) : (vslot s hs).view.emb x = (ix5 ⟨s, hs⟩ (x 0) (x 1) (x 2) (x 3) : S3x2x4x128x64.Idx) :=
  slot_emb s hs _ x
theorem kslot_set (s : ℕ) (hs : s < 3) : (kslot s hs).view.set = slotSet s := slot_map s hs _
theorem vslot_set (s : ℕ) (hs : s < 3) : (vslot s hs).view.set = slotSet s := slot_map s hs _

/-- What landing the contents of slot `s'` of `g` in slot `s` leaves at an element of slot `s`. -/
theorem kslot_copy (s s' : ℕ) (hs : s < 3) (hs' : s' < 3) (f g : S3x2x4x128x64.Idx → Elt F .bf16) (i : S3x2x4x128x64.Idx) (hi : i ∈ slotSet s) :
    (kslot s hs).view.write (Elt F) f ((kslot s' hs').view.read (Elt F) g) Finset.univ i = g (ix5 ⟨s', hs'⟩ (i 1) (i 2) (i 3) (i 4)) := by
  have e : i = (kslot s hs).view.emb (ix4 (i 1) (i 2) (i 3) (i 4)) := by
    rw [kslot_emb]; exact ix5_of_mem hs hi
  conv_lhs => rw [e]
  rw [View.write_emb_of_mem _ _ (Finset.mem_univ _), View.read_apply, kslot_emb]
  rfl
theorem vslot_copy (s s' : ℕ) (hs : s < 3) (hs' : s' < 3) (f g : S3x2x4x128x64.Idx → Elt F .bf16) (i : S3x2x4x128x64.Idx) (hi : i ∈ slotSet s) :
    (vslot s hs).view.write (Elt F) f ((vslot s' hs').view.read (Elt F) g) Finset.univ i = g (ix5 ⟨s', hs'⟩ (i 1) (i 2) (i 3) (i 4)) := by
  have e : i = (vslot s hs).view.emb (ix4 (i 1) (i 2) (i 3) (i 4)) := by
    rw [vslot_emb]; exact ix5_of_mem hs hi
  conv_lhs => rw [e]
  rw [View.write_emb_of_mem _ _ (Finset.mem_univ _), View.read_apply, vslot_emb]
  rfl

/-! ## Storing one head of slot 1 -/

theorem inb_head (b h : ℕ) (hb : b < 2) (hh : h < 4) :
    ∀ a, (![1, b, h, 0, 0] : Fin 5 → Nat) a + S1x1x1x128x64.size a ≤ S3x2x4x128x64.size a := by
  interval_cases b <;> interval_cases h <;> decide

/-- The rectangle of batch `b`, head `h` of slot 1. -/
abbrev headR (b h : ℕ) (hb : b < 2) (hh : h < 4) : Rect S3x2x4x128x64 :=
  Rect.unit (s := S3x2x4x128x64) ![1, b, h, 0, 0] S1x1x1x128x64.size (inb_head b h hb hh)

theorem head_emb (b h : ℕ) (hb : b < 2) (hh : h < 4) (x : S1x1x1x128x64.Idx) :
    (headR b h hb hh).emb x = (ix5 1 ⟨b, hb⟩ ⟨h, hh⟩ (x 3) (x 4) : S3x2x4x128x64.Idx) := by
  funext a
  apply Fin.ext
  rw [Rect.emb_apply]
  match a with
  | ⟨0, _⟩ => show 1 + 1 * (x 0).val = 1; have := (x 0).isLt; change (x 0).val < 1 at this; omega
  | ⟨1, _⟩ => show b + 1 * (x 1).val = b; have := (x 1).isLt; change (x 1).val < 1 at this; omega
  | ⟨2, _⟩ => show h + 1 * (x 2).val = h; have := (x 2).isLt; change (x 2).val < 1 at this; omega
  | ⟨3, _⟩ => show 0 + 1 * (x 3).val = (x 3).val; omega
  | ⟨4, _⟩ => show 0 + 1 * (x 4).val = (x 4).val; omega

theorem head_subset (b h : ℕ) (hb : b < 2) (hh : h < 4) : Finset.univ.map (headR b h hb hh).emb ⊆ slotSet 1 := by
  intro i hi
  obtain ⟨x, -, rfl⟩ := Finset.mem_map.1 hi
  rw [mem_slotSet, head_emb]; rfl

/-- Storing a head: the head's elements are the stored ones, the others stay. -/
def put (b h : ℕ) (w : Vec F S1x1x1x128x64 .bf16) (f : S3x2x4x128x64.Idx → Elt F .bf16) :
    S3x2x4x128x64.Idx → Elt F .bf16 :=
  fun i => if (i 0).val = 1 ∧ (i 1).val = b ∧ (i 2).val = h then w (ix5 0 0 0 (i 3) (i 4)) else f i

theorem head_put_k (b h : ℕ) (hb : b < 2) (hh : h < 4) (w : Vec F S1x1x1x128x64 .bf16) (f : S3x2x4x128x64.Idx → Elt F .bf16) :
    (kM.view.slice (headR b h hb hh)).write (Elt F) f w Finset.univ = put b h w f := by
  funext i
  by_cases hi : (i 0).val = 1 ∧ (i 1).val = b ∧ (i 2).val = h
  · refine Eq.trans ?_ (if_pos hi).symm
    have e : i = (kM.view.slice (headR b h hb hh)).emb (ix5 0 0 0 (i 3) (i 4) : S1x1x1x128x64.Idx) := by
      refine Eq.trans ?_ (head_emb b h hb hh _).symm
      have e0 : @Eq (Fin 3) (i 0) 1 := Fin.ext hi.1
      have e1 : @Eq (Fin 2) (i 1) ⟨b, hb⟩ := Fin.ext hi.2.1
      have e2 : @Eq (Fin 4) (i 2) ⟨h, hh⟩ := Fin.ext hi.2.2
      refine (eq_ix5 i).trans ?_
      rw [e0, e1, e2]
      rfl
    conv_lhs => rw [e]
    rw [View.write_emb_of_mem _ _ (Finset.mem_univ _)]
    rfl
  · refine Eq.trans ?_ (if_neg hi).symm
    apply View.write_of_not_mem
    intro hm
    obtain ⟨x, -, hx⟩ := Finset.mem_map.1 hm
    have e : i = (ix5 1 ⟨b, hb⟩ ⟨h, hh⟩ (x 3) (x 4) : S3x2x4x128x64.Idx) := hx.symm.trans (head_emb b h hb hh x)
    exact hi (by rw [e]; exact ⟨rfl, rfl, rfl⟩)
theorem head_put_v (b h : ℕ) (hb : b < 2) (hh : h < 4) (w : Vec F S1x1x1x128x64 .bf16) (f : S3x2x4x128x64.Idx → Elt F .bf16) :
    (vM.view.slice (headR b h hb hh)).write (Elt F) f w Finset.univ = put b h w f := by
  funext i
  by_cases hi : (i 0).val = 1 ∧ (i 1).val = b ∧ (i 2).val = h
  · refine Eq.trans ?_ (if_pos hi).symm
    have e : i = (vM.view.slice (headR b h hb hh)).emb (ix5 0 0 0 (i 3) (i 4) : S1x1x1x128x64.Idx) := by
      refine Eq.trans ?_ (head_emb b h hb hh _).symm
      have e0 : @Eq (Fin 3) (i 0) 1 := Fin.ext hi.1
      have e1 : @Eq (Fin 2) (i 1) ⟨b, hb⟩ := Fin.ext hi.2.1
      have e2 : @Eq (Fin 4) (i 2) ⟨h, hh⟩ := Fin.ext hi.2.2
      refine (eq_ix5 i).trans ?_
      rw [e0, e1, e2]
      rfl
    conv_lhs => rw [e]
    rw [View.write_emb_of_mem _ _ (Finset.mem_univ _)]
    rfl
  · refine Eq.trans ?_ (if_neg hi).symm
    apply View.write_of_not_mem
    intro hm
    obtain ⟨x, -, hx⟩ := Finset.mem_map.1 hm
    have e : i = (ix5 1 ⟨b, hb⟩ ⟨h, hh⟩ (x 3) (x 4) : S3x2x4x128x64.Idx) := hx.symm.trans (head_emb b h hb hh x)
    exact hi (by rw [e]; exact ⟨rfl, rfl, rfl⟩)

/-! ## What the buffers hold -/

theorem inb_khead (b h : ℕ) (hb : b < 2) (hh : h < 4) :
    ∀ a, (![b, 0, h, 0] : Fin 4 → Nat) a + S1x128x1x64.size a ≤ S2x128x4x64.size a := by
  interval_cases b <;> interval_cases h <;> decide

/-- The rectangle of batch `b`, head `h` of a staged K or V block. -/
abbrev kheadR (b h : ℕ) (hb : b < 2) (hh : h < 4) : Rect S2x128x4x64 :=
  Rect.unit (s := S2x128x4x64) ![b, 0, h, 0] S1x128x1x64.size (inb_khead b h hb hh)

/-- One head of a staged block, as a load reads it. -/
def headOf (g : Vec F S2x128x4x64 .bf16) (b h : ℕ) (hb : b < 2 := by decide) (hh : h < 4 := by decide) : Vec F S1x128x1x64 .bf16 :=
  fun x => g ((kheadR b h hb hh).emb x)

theorem khead_emb (b h : ℕ) (hb : b < 2) (hh : h < 4) (x : S1x128x1x64.Idx) :
    (kheadR b h hb hh).emb x = (ix4 ⟨b, hb⟩ (x 1) ⟨h, hh⟩ (x 3) : S2x128x4x64.Idx) := by
  funext a
  apply Fin.ext
  rw [Rect.emb_apply]
  match a with
  | ⟨0, _⟩ => show b + 1 * (x 0).val = b; have := (x 0).isLt; change (x 0).val < 1 at this; omega
  | ⟨1, _⟩ => show 0 + 1 * (x 1).val = (x 1).val; omega
  | ⟨2, _⟩ => show h + 1 * (x 2).val = h; have := (x 2).isLt; change (x 2).val < 1 at this; omega
  | ⟨3, _⟩ => show 0 + 1 * (x 3).val = (x 3).val; omega

/-- A stored head at an element is the staged block's element. -/
theorem pay2_apply (g : Vec F S2x128x4x64 .bf16) (b h : ℕ) (hb : b < 2) (hh : h < 4) (j : Fin 128) (d : Fin 64) :
    k0_pay2 (headOf g b h hb hh) (ix5 0 0 0 j d) = g (ix4 ⟨b, hb⟩ j ⟨h, hh⟩ d) := by
  unfold k0_pay2
  rw [shapeCast_apply _ _ _ (ix2 j d : S128x64.Idx) (by
    rw [Shape.rowMajor_val_five, Shape.rowMajor_val_two]
    show j.val * 64 + d.val = (((0 * 1 + 0) * 1 + 0) * 128 + j.val) * 64 + d.val
    ring)]
  rw [shapeCast_apply _ _ _ (ix4 0 j 0 d : S1x128x1x64.Idx) (by
    rw [Shape.rowMajor_val_four, Shape.rowMajor_val_two]
    show ((0 * 128 + j.val) * 1 + 0) * 64 + d.val = j.val * 64 + d.val
    ring)]
  unfold headOf
  rw [khead_emb]

/-- The eight stores of a block into slot 1. -/
def put8 (g : Vec F S2x128x4x64 .bf16) (f : S3x2x4x128x64.Idx → Elt F .bf16) : S3x2x4x128x64.Idx → Elt F .bf16 :=
  put 1 3 (k0_pay2 (headOf g 1 3)) <| put 1 2 (k0_pay2 (headOf g 1 2)) <| put 1 1 (k0_pay2 (headOf g 1 1)) <|
  put 1 0 (k0_pay2 (headOf g 1 0)) <| put 0 3 (k0_pay2 (headOf g 0 3)) <| put 0 2 (k0_pay2 (headOf g 0 2)) <|
  put 0 1 (k0_pay2 (headOf g 0 1)) <| put 0 0 (k0_pay2 (headOf g 0 0)) f

theorem put_ix5 (b h : ℕ) (w : Vec F S1x1x1x128x64 .bf16) (f : S3x2x4x128x64.Idx → Elt F .bf16)
    (s : Fin 3) (b' : Fin 2) (h' : Fin 4) (j : Fin 128) (d : Fin 64) :
    put b h w f (ix5 s b' h' j d) = if s.val = 1 ∧ b'.val = b ∧ h'.val = h then w (ix5 0 0 0 j d) else f (ix5 s b' h' j d) := rfl

/-- After the eight stores slot 1 holds the block, heads before rows. -/
theorem put8_ix5 (g : Vec F S2x128x4x64 .bf16) (f : S3x2x4x128x64.Idx → Elt F .bf16)
    (b : Fin 2) (h : Fin 4) (j : Fin 128) (d : Fin 64) : put8 g f (ix5 1 b h j d) = g (ix4 b j h d) := by
  unfold put8
  simp only [put_ix5, pay2_apply]
  fin_cases b <;> fin_cases h <;> rfl
theorem put8_slot (g : Vec F S2x128x4x64 .bf16) (f : S3x2x4x128x64.Idx → Elt F .bf16) (i : S3x2x4x128x64.Idx)
    (hi : i ∈ slotSet 1) : put8 g f i = g (ix4 (i 1) (i 3) (i 2) (i 4)) := by
  have e := ix5_of_mem (by decide) hi
  conv_lhs => rw [e]
  exact put8_ix5 g f _ _ _ _

/-- The contents of a halo buffer from the three devices' blocks: slot 0 the left neighbour's, 1 the device's own, 2
    the right neighbour's. -/
def fullOf (gl gc gr : Vec F S2x128x4x64 .bf16) : S3x2x4x128x64.Idx → Elt F .bf16 :=
  fun i => (![gl, gc, gr] : Fin 3 → Vec F S2x128x4x64 .bf16) (i 0) (ix4 (i 1) (i 3) (i 2) (i 4))

end Cert.Halo

end
-- ==== Proof.Protocol.lean ====
/-
# The protocol of the halo exchange

Every device signals the barrier semaphores of its two ring neighbours, handing each the slot of its two halo buffers
that neighbour will write (slot 0 to the left, slot 2 to the right); waits for its own two units; sends its K and its
V block to both neighbours (four transfers, each with its own send and receive semaphore); and waits for the four
sends and the four arrivals. In the rounds library's terms each of a device's nine cells has one round: the barrier
cell two duties of one unit, each transfer cell one duty of a slot's credit.
-/
module

public import proofs.«01_k».proof.Proof.Slots
public import proofs.«01_k».proof.Proof.Gen.KernelIdeal.Points

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's rounds and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The devices the kernel's chains of words name: left for the first signal and the first transfer of each buffer,
    right for the second. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = prv c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = nxt c := by revert c; decide +kernel

def ring : Dev nD ≃ Dev nD := ⟨nxt, prv, prv_nxt, nxt_prv⟩

/-- Transfer `t`'s other end, as the sender names it: left for 0 (K) and 2 (V), right for 1 (K) and 3 (V). -/
def peer (t : Fin 4) (c : Dev nD) : Dev nD := match t with | 0 => prv c | 1 => nxt c | 2 => prv c | 3 => nxt c
/-- The device whose transfer `t` arrives at `c`. -/
def from' (t : Fin 4) (c : Dev nD) : Dev nD := match t with | 0 => nxt c | 1 => prv c | 2 => nxt c | 3 => prv c
theorem peer_from (t : Fin 4) (c : Dev nD) : peer t (from' t c) = c := by revert t c; decide
theorem from_peer (t : Fin 4) (c : Dev nD) : from' t (peer t c) = c := by revert t c; decide
def ringT (t : Fin 4) : Dev nD ≃ Dev nD := ⟨peer t, from' t, from_peer t, peer_from t⟩

/-! ## The semaphores and cells -/

/-- The runtime's barrier semaphore of collective id 0 (unscoped). -/
abbrev barS : Sem sig := (SemArray.scalar (sig.barrier 0 rfl) : Sems sig S_).sem
/-- Transfer `t`'s send semaphore and its receive semaphore (scoped scratch). -/
def sS (t : Fin 4) : DmaSem sig := ⟨6 + t.val, by have := t.isLt; show 6 + t.val < 14; omega⟩
def sR (t : Fin 4) : DmaSem sig := ⟨10 + t.val, by have := t.isLt; show 10 + t.val < 14; omega⟩

abbrev barCell (c : Dev nD) : GSem nD τ sig := ((c : Thread nD τ), .reg barS)
abbrev sendCell (t : Fin 4) (c : Dev nD) : GSem nD τ sig := ((c : Thread nD τ), .dma (sS t))
abbrev recvCell (t : Fin 4) (c : Dev nD) : GSem nD τ sig := ((c : Thread nD τ), .dma (sR t))

/-- The kernel's own (scoped) semaphores: four sends, four receives; -/
abbrev osem : Fin 8 → SemLoc sig := fun
  | 0 => .dma (sS 0) | 1 => .dma (sS 1) | 2 => .dma (sS 2) | 3 => .dma (sS 3)
  | 4 => .dma (sR 0) | 5 => .dma (sR 1) | 6 => .dma (sR 2) | 7 => .dma (sR 3)
/-- all nine: the barrier, four sends, four receives. -/
abbrev csem : Fin 9 → SemLoc sig := fun
  | 0 => .reg barS | 1 => .dma (sS 0) | 2 => .dma (sS 1) | 3 => .dma (sS 2) | 4 => .dma (sS 3)
  | 5 => .dma (sR 0) | 6 => .dma (sR 1) | 7 => .dma (sR 2) | 8 => .dma (sR 3)
abbrev kcell (ck : Dev nD × Fin 9) : GSem nD τ sig := ((ck.1 : Thread nD τ), csem ck.2)

/-- A slot's credit: the same for every slot of both buffers. -/
abbrev N : ℕ := (kslot 1 (by decide)).view.dmaCredit
theorem N_pos : 0 < N := View.dmaCredit_pos _ (by decide)

/-! ## Contents -/

/-- The K block staged on device `c`, and the V block, and `x`, `Wq`, `Wo`. -/
def kstg (c : Dev nD) : Vec F S2x128x4x64 .bf16 := (win0_2.blk (0 : Fin 1)).view.read (Elt F) ((s₀ m ρ).mem ((c : Thread nD τ).loc main_arg2))
def vstg (c : Dev nD) : Vec F S2x128x4x64 .bf16 := (win0_3.blk (0 : Fin 1)).view.read (Elt F) ((s₀ m ρ).mem ((c : Thread nD τ).loc main_arg3))
def xstg (c : Dev nD) : Vec F S2x128x512 .bf16 := (win0_0.blk (0 : Fin 1)).view.read (Elt F) ((s₀ m ρ).mem ((c : Thread nD τ).loc main_arg0))
def wqstg (c : Dev nD) : Vec F S512x256 .bf16 := (win0_1.blk (0 : Fin 1)).view.read (Elt F) ((s₀ m ρ).mem ((c : Thread nD τ).loc main_arg1))
def wostg (c : Dev nD) : Vec F S256x512 .bf16 := (win0_4.blk (0 : Fin 1)).view.read (Elt F) ((s₀ m ρ).mem ((c : Thread nD τ).loc main_arg4))

/-- What device `c`'s halo buffers hold once everything has arrived. -/
def kfull (c : Dev nD) : S3x2x4x128x64.Idx → Elt F .bf16 := fullOf (kstg m ρ (prv c)) (kstg m ρ c) (kstg m ρ (nxt c))
def vfull (c : Dev nD) : S3x2x4x128x64.Idx → Elt F .bf16 := fullOf (vstg m ρ (prv c)) (vstg m ρ c) (vstg m ρ (nxt c))

/-- Slot `s` of device `c`'s K buffer at share `q`, and of its V buffer. -/
def kreg (c : Dev nD) (s : ℕ) (q : PosShare TreeShare) (f : S3x2x4x128x64.Idx → Elt F .bf16) : sProp 𝕄 :=
  (c : Thread nD τ).loc cc0_scratch0 ↦[slotSet s]{q} f
def vreg (c : Dev nD) (s : ℕ) (q : PosShare TreeShare) (f : S3x2x4x128x64.Idx → Elt F .bf16) : sProp 𝕄 :=
  (c : Thread nD τ).loc cc0_scratch1 ↦[slotSet s]{q} f

omit [FloatOps F] [Named F] in
instance kreg_storable (c : Dev nD) (s) (q) (f) : BI.Storable (upEmb : UEmb _ 𝕄) (kreg (F := F) c s q f) := by unfold kreg; infer_instance
omit [FloatOps F] [Named F] in
instance vreg_storable (c : Dev nD) (s) (q) (f) : BI.Storable (upEmb : UEmb _ 𝕄) (vreg (F := F) c s q f) := by unfold vreg; infer_instance

/-! ## The schedule -/

/-- What `nxt c`'s signal hands `c`: slot 0 of `nxt c`'s two buffers; what `prv c`'s hands it: slot 2 of `prv c`'s. -/
def barPay (c : Dev nD) (d : Bool) : sProp 𝕄 :=
  match d with
  | true => iprop((∃ f, kreg (nxt c) 0 fullShare f) ∗ ∃ f, vreg (nxt c) 0 fullShare f)
  | false => iprop((∃ f, kreg (prv c) 2 fullShare f) ∗ ∃ f, vreg (prv c) 2 fullShare f)

/-- What transfer semaphore `q` of device `c` hands it: a send its half of slot 1 back, a receive the slot filled. -/
def xferPay (c : Dev nD) (q : DmaSem sig) : sProp 𝕄 :=
  match q.val with
  | 6 => kreg c 1 fullShare.left (kfull m ρ c)
  | 7 => kreg c 1 fullShare.right (kfull m ρ c)
  | 8 => vreg c 1 fullShare.left (vfull m ρ c)
  | 9 => vreg c 1 fullShare.right (vfull m ρ c)
  | 10 => kreg c 2 fullShare (kfull m ρ c)
  | 11 => kreg c 0 fullShare (kfull m ρ c)
  | 12 => vreg c 2 fullShare (vfull m ρ c)
  | 13 => vreg c 0 fullShare (vfull m ρ c)
  | _ => iprop(emp)

theorem pay_S0 (c : Dev nD) : xferPay m ρ c (sS 0) = kreg c 1 fullShare.left (kfull m ρ c) := by unfold xferPay; rfl
theorem pay_S1 (c : Dev nD) : xferPay m ρ c (sS 1) = kreg c 1 fullShare.right (kfull m ρ c) := by unfold xferPay; rfl
theorem pay_S2 (c : Dev nD) : xferPay m ρ c (sS 2) = vreg c 1 fullShare.left (vfull m ρ c) := by unfold xferPay; rfl
theorem pay_S3 (c : Dev nD) : xferPay m ρ c (sS 3) = vreg c 1 fullShare.right (vfull m ρ c) := by unfold xferPay; rfl
theorem pay_R0 (c : Dev nD) : xferPay m ρ c (sR 0) = kreg c 2 fullShare (kfull m ρ c) := by unfold xferPay; rfl
theorem pay_R1 (c : Dev nD) : xferPay m ρ c (sR 1) = kreg c 0 fullShare (kfull m ρ c) := by unfold xferPay; rfl
theorem pay_R2 (c : Dev nD) : xferPay m ρ c (sR 2) = vreg c 2 fullShare (vfull m ρ c) := by unfold xferPay; rfl
theorem pay_R3 (c : Dev nD) : xferPay m ρ c (sR 3) = vreg c 0 fullShare (vfull m ρ c) := by unfold xferPay; rfl

instance barPay_storable (c : Dev nD) (d : Bool) : BI.Storable (upEmb : UEmb _ 𝕄) (barPay (F := F) c d) := by
  unfold barPay; cases d <;> infer_instance
instance xferPay_storable (c : Dev nD) (q : DmaSem sig) : BI.Storable (upEmb : UEmb _ 𝕄) (xferPay (F := F) m ρ c q) := by
  unfold xferPay; split <;> infer_instance

/-- One round, round 0: a barrier cell's two duties of one unit each, a transfer cell's one duty `false` of a slot's
    credit. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with | .reg _ => barPay g.1.1 d | .dma q => xferPay m ρ g.1.1 q
  amount_pos g _ _ _ := by
    obtain ⟨g, s⟩ := g
    cases s
    · exact Nat.one_pos
    · exact N_pos

instance rd_payload_storable (g : GSem nD τ sig) (r : ℕ) (d : Bool) :
    BI.Storable (upEmb : UEmb _ 𝕄) ((rd (F := F) m ρ).payload g r d) := by
  obtain ⟨g, s⟩ := g
  cases s
  · exact barPay_storable g.1 d
  · exact xferPay_storable m ρ g.1 _

section Sched
variable (c : Dev nD) (q : DmaSem sig)

theorem duties_bar : (rd (F := F) m ρ).duties (barCell c) 0 = Finset.univ := by dsimp only [rd]; exact if_pos ⟨rfl, rfl⟩
theorem duties_dma : (rd (F := F) m ρ).duties ((c : Thread nD τ), .dma q) 0 = {false} := by dsimp only [rd]; exact if_pos ⟨rfl, rfl⟩
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := rfl
theorem amount_dma (d : Bool) : (rd (F := F) m ρ).amount ((c : Thread nD τ), .dma q) 0 d = N := rfl

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma : (rd (F := F) m ρ).expect ((c : Thread nD τ), .dma q) 0 = N := by
  unfold Schedule.expect Schedule.amountOf; rw [duties_dma, Finset.sum_singleton, amount_dma]

theorem payload_bar (d : Bool) : (rd (F := F) m ρ).payload (barCell c) 0 d = barPay c d := rfl
theorem payload_dma (d : Bool) : (rd (F := F) m ρ).payload ((c : Thread nD τ), .dma q) 0 d = xferPay m ρ c q := rfl

/-- The whole of a barrier cell's round: both neighbours' slots. -/
theorem rest_bar : bigSep ((rd (F := F) m ρ).duties (barCell c) 0 \ ∅) (fun d => (rd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- The whole of a transfer cell's round. -/
theorem rest_dma : bigSep ((rd (F := F) m ρ).duties ((c : Thread nD τ), .dma q) 0 \ ∅)
    (fun d => (rd (F := F) m ρ).payload ((c : Thread nD τ), .dma q) 0 d) = xferPay m ρ c q := by
  rw [Finset.sdiff_empty, duties_dma, bigSep_singleton, payload_dma]

end Sched

/-! ## What each device owes at launch; the levels -/

/-- The credit of transfer `t`'s arrival at its other end. -/
abbrev ow1 (t : Fin 4) (c : Dev nD) : CellTallies nD τ sig Unit := tallyAt (recvCell t (peer t c)) () N
/-- What device `c` still owes before its last transfer, the last two, the last three, all four; -/
def O₄ (c : Dev nD) : CellTallies nD τ sig Unit := 0 + ow1 3 c
def O₃ (c : Dev nD) : CellTallies nD τ sig Unit := O₄ c + ow1 2 c
def O₂ (c : Dev nD) : CellTallies nD τ sig Unit := O₃ c + ow1 1 c
def O₁ (c : Dev nD) : CellTallies nD τ sig Unit := O₂ c + ow1 0 c
/-- before its second signal; at launch. -/
def Ob (c : Dev nD) : CellTallies nD τ sig Unit := O₁ c + tallyAt (barCell (nxt c)) () 1
def O₀ (c : Dev nD) : CellTallies nD τ sig Unit := Ob c + tallyAt (barCell (prv c)) () 1

def L (g : GSem nD τ sig) : Finset Unit := if g.1.2 = .tc then {()} else ∅
/-- Barrier cells at 1, receive cells at 2, the rest (staging, send) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ t, g = recvCell t (peer t c) := by
  unfold O₁ O₂ O₃ O₄ ow1 at h
  simp only [Pi.add_apply, Finsupp.add_apply] at h
  by_contra hn
  rw [not_exists] at hn
  have z (t : Fin 4) : (tallyAt (recvCell t (peer t c)) () N : CellTallies nD τ sig Unit) g u = 0 :=
    Nat.eq_zero_of_not_pos fun h' => hn t (tally_pos h')
  rw [z, z, z, z] at h
  exact Nat.lt_irrefl 0 h

theorem O₀_pos {c : Dev nD} {g : GSem nD τ sig} {u : Unit} (h : 0 < O₀ c g u) :
    (∃ t, g = recvCell t (peer t c)) ∨ ∃ c', g = barCell c' := by
  unfold O₀ Ob at h
  rw [Pi.add_apply, Finsupp.add_apply, Pi.add_apply, Finsupp.add_apply] at h
  by_contra hn
  rw [not_or] at hn
  have z1 : O₁ c g u = 0 := Nat.eq_zero_of_not_pos fun h' => hn.1 (O₁_pos h')
  have z2 (c' : Dev nD) : (tallyAt (barCell c') () 1 : CellTallies nD τ sig Unit) g u = 0 :=
    Nat.eq_zero_of_not_pos fun h' => hn.2 ⟨c', tally_pos h'⟩
  rw [z1, z2, z2] at h
  exact Nat.lt_irrefl 0 h

theorem lv_recv (t : Fin 4) (c : Dev nD) (u : Unit) : lv (recvCell t c) u = 2 := if_pos (Nat.le_add_right _ _)

omit [FloatOps F] [Named F] in
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨c', rfl⟩ <;> exact Finset.mem_singleton_self _)
      (fun p hp => by
        rw [Finset.mem_singleton.mp hp]
        show (if 10 ≤ q.val then 2 else 0) ≤ 0
        rw [if_neg (by omega)])
      (fun g u hg => by
        rcases O₀_pos hg with ⟨t, rfl⟩ | ⟨c', rfl⟩
        · rw [lv_recv]; decide
        · exact Nat.one_pos)
  · rw [MayWait_zero]; iintro -; iempintro

omit [FloatOps F] [Named F] in
/-- At its barrier wait a device owes arrivals only: receive cells, above its barrier cell. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨t, rfl⟩ := O₁_pos hg; exact Finset.mem_singleton_self _)
    (fun p hp => by rw [Finset.mem_singleton.mp hp]; exact le_refl 1)
    (fun g u hg => by obtain ⟨t, rfl⟩ := O₁_pos hg; rw [lv_recv]; decide)

/-! ## The ghost state a device starts from -/

/-- The nine cells' invariants of every device, and that each is at round 0: shared by all. -/
def records (K : Dev nD × Fin 9 → ℕ) : sProp 𝕄 :=
  iprop((bigSep Finset.univ fun ck : Dev nD × Fin 9 => cellInv ER (rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem invs_elim (K : Dev nD × Fin 9 → ℕ) (ck : Dev nD × Fin 9) :
    (bigSep Finset.univ fun ck : Dev nD × Fin 9 => (cellInv ER (rd m ρ) (K ck) (kcell ck) : sProp 𝕄)) ⊢ cellInv ER (rd m ρ) (K ck) (kcell ck) :=
  bigSep_elim (Finset.mem_univ ck)
omit [FloatOps F] [Named F] in
theorem reacheds_elim (ck : Dev nD × Fin 9) :
    (bigSep Finset.univ fun ck : Dev nD × Fin 9 => (reached ER (kcell ck) 0 : sProp 𝕄)) ⊢ reached ER (kcell ck) 0 :=
  bigSep_elim (Finset.mem_univ ck)
/-- One cell's invariant out of them. -/
theorem inv_at (K : Dev nD × Fin 9 → ℕ) (ck : Dev nD × Fin 9) : records m ρ K ⊢ cellInv ER (rd m ρ) (K ck) (kcell ck) := by
  unfold records
  iintro ⟨H, -⟩
  iapply (invs_elim m ρ K ck) $$ H
/-- That one cell is at round 0 out of them. -/
theorem reached_at (K : Dev nD × Fin 9 → ℕ) (ck : Dev nD × Fin 9) : records m ρ K ⊢ reached ER (kcell ck) 0 := by
  unfold records
  iintro ⟨-, H⟩
  iapply (reacheds_elim ck) $$ H

/-- The two tokens transfer `t` pays with: its arrival at the other end, its own send. -/
def xtoks (t : Fin 4) (c : Dev nD) : sProp 𝕄 := iprop(dutyTok ER (recvCell t (peer t c)) 0 false ∗ dutyTok ER (sendCell t c) 0 false)
/-- The tokens of the duties device `c` pays: its two signals and its four transfers. -/
def payToks (c : Dev nD) : sProp 𝕄 :=
  iprop(dutyTok ER (barCell (prv c)) 0 true ∗ dutyTok ER (barCell (nxt c)) 0 false ∗ xtoks 0 c ∗ xtoks 1 c ∗ xtoks 2 c ∗ xtoks 3 c)
/-- Its positions at round 0 of its nine cells. -/
def poss (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0 ∗ atPos ER (sendCell 3 c) 0 ∅ 0
    ∗ atPos ER (recvCell 0 c) 0 ∅ 0 ∗ atPos ER (recvCell 1 c) 0 ∅ 0 ∗ atPos ER (recvCell 2 c) 0 ∅ 0 ∗ atPos ER (recvCell 3 c) 0 ∅ 0)
/-- What device `c`'s body starts from, at names `K`. -/
def ghost (K : Dev nD × Fin 9 → ℕ) (c : Dev nD) : sProp 𝕄 := iprop(records m ρ K ∗ poss c ∗ payToks c)

/-- Its launch credit: its barrier's two units, each arrival's credit. -/
def creds' (c : Dev nD) : sProp 𝕄 :=
  iprop(cred (tallyAt (barCell c) () 2) ∗ cred (tallyAt (recvCell 0 c) () N) ∗ cred (tallyAt (recvCell 1 c) () N)
    ∗ cred (tallyAt (recvCell 2 c) () N) ∗ cred (tallyAt (recvCell 3 c) () N))

def start (c : Dev nD) : sProp 𝕄 := iprop((∃ K, ghost m ρ K c) ∗ creds' c ∗ levAts L lv)

/-- Before the point: the above and the two halo buffers at any contents. -/
def Φ₀ (c : Dev nD) : sProp 𝕄 :=
  iprop(start m ρ c ∗ (∃ f, (c : Thread nD τ).loc cc0_scratch0 ↦{fullShare} f) ∗ ∃ f, (c : Thread nD τ).loc cc0_scratch1 ↦{fullShare} f)
/-- After the point: the two buffers filled, every counter of the nine cells at zero. -/
def Φ₁ (c : Dev nD) : sProp 𝕄 :=
  iprop((∃ f, (c : Thread nD τ).loc cc0_scratch0 ↦{fullShare} f) ∗ (∃ f, (c : Thread nD τ).loc cc0_scratch1 ↦{fullShare} f)
    ∗ semVal (barCell c) 0
    ∗ semVal (sendCell 0 c) 0 ∗ semVal (sendCell 1 c) 0 ∗ semVal (sendCell 2 c) 0 ∗ semVal (sendCell 3 c) 0
    ∗ semVal (recvCell 0 c) 0 ∗ semVal (recvCell 1 c) 0 ∗ semVal (recvCell 2 c) 0 ∗ semVal (recvCell 3 c) 0)

abbrev 𝒱₀ : Variants := Variants.none

end Cert.Halo

end
-- ==== Proof.Steps.lean ====
/-
# The steps of the exchange

The rules the body's run is made of: a signal handing over a pair of slots, the barrier wait, each of the four
transfers, a wait on a transfer semaphore (which also closes the semaphore's cell), and the stores of the heads.
-/
module

public import proofs.«01_k».proof.Proof.Protocol

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 9 → ℕ)

theorem h0 : 0 < 3 := by decide
theorem h1 : 1 < 3 := by decide
theorem h2 : 2 < 3 := by decide

/-- Every slot's credit is the same. -/
theorem kslot_credit (s : ℕ) (hs : s < 3) : (kslot s hs).view.dmaCredit = N := rfl
theorem vslot_credit (s : ℕ) (hs : s < 3) : (vslot s hs).view.dmaCredit = N := rfl

/-- What device `c` owes, whatever it has waited on. -/
def ow (c : Dev nD) (O : CellTallies nD τ sig Unit) : sProp 𝕄 := iprop(∃ W, owes (c : Thread nD τ) O W)

/-- The index of transfer `t`'s send cell and of its receive cell among the nine. -/
def kS (t : Fin 4) : Fin 9 := ⟨1 + t.val, by omega⟩
def kR (t : Fin 4) : Fin 9 := ⟨5 + t.val, by omega⟩
theorem kcell_S (t : Fin 4) (c : Dev nD) : kcell (c, kS t) = sendCell t c := by fin_cases t <;> rfl
theorem kcell_R (t : Fin 4) (c : Dev nD) : kcell (c, kR t) = recvCell t c := by fin_cases t <;> rfl

theorem inv_bar (c : Dev nD) : records m ρ K ⊢ cellInv ER (rd m ρ) (K (c, 0)) (barCell c) := inv_at m ρ K (c, 0)
theorem inv_S (t : Fin 4) (c : Dev nD) : records m ρ K ⊢ cellInv ER (rd m ρ) (K (c, kS t)) (sendCell t c) := by
  have h := inv_at m ρ K (c, kS t); rwa [kcell_S] at h
theorem inv_R (t : Fin 4) (c : Dev nD) : records m ρ K ⊢ cellInv ER (rd m ρ) (K (c, kR t)) (recvCell t c) := by
  have h := inv_at m ρ K (c, kR t); rwa [kcell_R] at h
theorem reached_bar (c : Dev nD) : records m ρ K ⊢ reached ER (barCell c) 0 := reached_at m ρ K (c, 0)
theorem reached_S (t : Fin 4) (c : Dev nD) : records m ρ K ⊢ reached ER (sendCell t c) 0 := by
  have h := reached_at m ρ K (c, kS t); rwa [kcell_S] at h
theorem reached_R (t : Fin 4) (c : Dev nD) : records m ρ K ⊢ reached ER (recvCell t c) 0 := by
  have h := reached_at m ρ K (c, kR t); rwa [kcell_R] at h

/-! ## Signals and the barrier wait -/

/-- A signal to device `n`'s barrier, its duty `d`, with the payload of that duty. -/
theorem wp_sig (c n n' : Dev nD) (hn : n' = n) (d : Bool) (w : ℕ) (hw : w = 1) (O O' : CellTallies nD τ sig Unit) (hO : O = O' + tallyAt (barCell n) () 1)
    {α : Type} {Q : α → sProp 𝕄} {k : PUnit → Prog (TpuEff nD τ sig (Elt F) Λ₀ .tc) α} :
    iprop(records m ρ K ∗ ow c O ∗ dutyTok ER (barCell n) 0 d ∗ barPay n d)
      ⊢ iprop((ow c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n') barS w) k) Q) := by
  subst hn hw
  unfold ow
  iintro ⟨#HR, ⟨%W, HO⟩, Ht, Hp⟩
  iintro Hk
  iapply (Rounds.wp_signal 𝒱₀ ER (rd m ρ) (c : Thread nD τ) none (dst := (n' : Thread nD τ)) (κ := K (n', 0))
      (d := d) (by rw [duties_bar]; exact Finset.mem_univ _) (amount_bar m ρ n' d) () O' hO)
    $$ [HO Ht Hp]
  · isplitr; · iapply (inv_bar m ρ K n'); iexact HR
    isplitl [HO]; · iexact HO
    isplitl [Ht]; · iexact Ht
    isplitl [Hp]; · rw [payload_bar]; iexact Hp
    iapply (reached_bar m ρ K n'); iexact HR
  iintro HO
  iapply Hk
  iexists W; iexact HO

/-- The barrier wait: both neighbours' slots come with it. -/
theorem wp_barwait (c : Dev nD) (w : ℕ) (hw : w = 2) {α : Type} {Q : α → sProp 𝕄} {k : PUnit → Prog (TpuEff nD τ sig (Elt F) Λ₀ .tc) α} :
    iprop(records m ρ K ∗ levAts L lv ∗ ow c (O₁ c) ∗ cred (tallyAt (barCell c) () 2) ∗ atPos ER (barCell c) 0 ∅ 0)
      ⊢ iprop(((ow c (O₁ c) ∗ semVal (barCell c) 0 ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  unfold ow
  iintro ⟨#HR, #Hlev, ⟨%W, HO⟩, Hc, Hat⟩
  iintro Hk
  iapply (Rounds.wp_wait_rest_token 𝒱₀ ER (rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨Hp1, Hp2⟩
  imod (Rounds.cell_close ER (rd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  isplitl [Hp1] <;> iassumption

/-! ## A wait on a transfer semaphore -/

/-- The wait on transfer semaphore `q`, owing nothing: its payload, and its counter at zero. -/
theorem wp_xwait (c : Dev nD) (q q' : DmaSem sig) (hq : q' = q) (κ : ℕ) (hi : records m ρ K ⊢ cellInv ER (rd m ρ) κ ((c : Thread nD τ), .dma q))
    {s : Memref sig .tc .vmem S2x4x128x64 .bf16} {d : Memref sig (c : Thread nD τ).2.kind .vmem S2x4x128x64 .bf16} {hx1} {hx2}
    (hd : s.view.dmaCredit = N)
    {α : Type} {Q : α → sProp 𝕄} {k : PUnit → Prog (TpuEff nD τ sig (Elt F) Λ₀ .tc) α} :
    iprop(records m ρ K ∗ ow c 0 ∗ cred (tallyAt ((c : Thread nD τ), .dma q) () N) ∗ atPos ER ((c : Thread nD τ), .dma q) 0 ∅ 0)
      ⊢ iprop(((ow c 0 ∗ semVal ((c : Thread nD τ), .dma q) 0 ∗ xferPay m ρ c q)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' d s hx1 hx2) k) Q) := by
  subst hq
  unfold ow
  iintro ⟨#HR, ⟨%W, HO⟩, Hc, Hat⟩
  iintro Hk
  iapply (Rounds.wp_wait_rest_token 𝒱₀ ER (rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_dma])) $$ [Hc HO Hat]
  · isplitr; · iapply hi; iexact HR
    isplitl [Hc]; · iexact Hc
    isplitl [HO]; · iexact HO
    isplitr; · rw [MayWait_zero]; iempintro
    iexact Hat
  iintro ⟨HO, Hat, -, Hpay⟩
  ihave Hp := (Entails.of_eq (rest_dma m ρ c q')) $$ Hpay
  imod (Rounds.cell_close ER (rd m ρ) (Set.mem_univ κ) (fun h => h) (R := 0 + 1) (duties_later m ρ ((c : Thread nD τ), .dma q'))) $$ [Hat] with Hz
  · isplitr; · iapply hi; iexact HR
    iexact Hat
  iapply Hk
  isplitl [HO]; · iexists _; iexact HO
  isplitl [Hz] <;> iassumption

/-! ## The transfers -/

/-- Transfer `t`, from elements held at share `q` to elements of its other end held whole. -/
theorem wp_xfer (t : Fin 4) (c n : Dev nD) (hn : n = peer t c) (qS qR : DmaSem sig) (hqS : qS = sS t) (hqR : qR = sR t)
    {src dst : Memref sig .tc .vmem S2x4x128x64 .bf16}
    {hsc : (dst : Memref sig (Dev.tc n : Thread nD τ).2.kind .vmem S2x4x128x64 .bf16).view.ref.isScScratch = false}
    {hsrc : src.view.WordExact} {hdst : dst.view.WordExact}
    {hsem : DmaTarget.Typed .vmem (.dma qR) (.remote (Dev.tc n : Thread nD τ) (dst : Memref sig (Dev.tc n : Thread nD τ).2.kind .vmem S2x4x128x64 .bf16) (.dma qS) hsc)}
    (hN : dst.view.amount (.dma qR) = N) (q : PosShare TreeShare)
    (fs : Buf (Elt F) (src.view.loc (c : Thread nD τ))) (fd : Buf (Elt F) (dst.view.loc (Dev.tc n : Thread nD τ)))
    (O' : CellTallies nD τ sig Unit)
    (hpay₁ : ((src.view.loc (c : Thread nD τ) ↦[src.view.set]{q} fs) : sProp 𝕄) ⊢ xferPay m ρ c (sS t))
    (hpay₂ : ((dst.view.loc (Dev.tc n : Thread nD τ) ↦[dst.view.set]{fullShare} (dst.view.write (Elt F) fd (src.view.read (Elt F) fs) Finset.univ)) : sProp 𝕄)
      ⊢ xferPay m ρ n (sR t))
    {α : Type} {Q : α → sProp 𝕄} {k : PUnit → Prog (TpuEff nD τ sig (Elt F) Λ₀ .tc) α} :
    iprop(records m ρ K ∗ ow c (O' + ow1 t c) ∗ xtoks t c
        ∗ (src.view.loc (c : Thread nD τ) ↦[src.view.set]{q} fs) ∗ (dst.view.loc (Dev.tc n : Thread nD τ) ↦[dst.view.set]{fullShare} fd))
      ⊢ iprop(((ow c O' ∗ cred (tallyAt (sendCell t c) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k) Q) := by
  subst hqS hqR hn
  unfold ow xtoks
  iintro ⟨#HR, ⟨%W, HO⟩, ⟨HtR, HtS⟩, Hsrc, Hdst⟩
  iintro Hk
  iapply (Rounds.wp_send_pointsTo 𝒱₀ ER (rd m ρ) (c : Thread nD τ) none (κ₁ := K (c, kS t)) (κ₂ := K (peer t c, kR t))
    (r₁ := 0) (r₂ := 0) (d₁ := false) (d₂ := false) (fd := fd) (fs := fs) (q := q)
    (by rw [duties_dma]; exact Finset.mem_singleton_self _) (by rw [duties_dma]; exact Finset.mem_singleton_self _)
    () () N hN (amount_dma m ρ c _ false) (amount_dma m ρ (peer t c) _ false) O' rfl (W := W)
    (by rw [payload_dma]; exact hpay₁)
    (by rw [payload_dma]; exact hpay₂)) $$ [HO HtR HtS Hsrc Hdst]
  · isplitr; · iapply (inv_S m ρ K t c); iexact HR
    isplitr; · iapply (inv_R m ρ K t (peer t c)); iexact HR
    isplitl [Hsrc]; · iexact Hsrc
    isplitl [Hdst]; · iexact Hdst
    isplitl [HO]; · iexact HO
    isplitl [HtS]; · iexact HtS
    isplitr; · iapply (reached_S m ρ K t c); iexact HR
    isplitl [HtR]; · iexact HtR
    iapply (reached_R m ρ K t (peer t c)); iexact HR
  iintro ⟨Hc, HO⟩
  iapply Hk
  isplitl [HO]; · iexists W; iexact HO
  iexact Hc

/-! ### Contents on arrival -/

omit [FloatOps F] [Named F] in
/-- The middle of a device's buffer is its left neighbour's slot 2, -/
theorem full_left (g : Dev nD → Vec F S2x128x4x64 .bf16) (c : Dev nD) (i : S3x2x4x128x64.Idx) (hi : i ∈ slotSet 2) :
    fullOf (g (prv c)) (g c) (g (nxt c)) (ix5 ⟨1, by decide⟩ (i 1) (i 2) (i 3) (i 4))
      = fullOf (g (prv (prv c))) (g (prv c)) (g (nxt (prv c))) i := by
  have e := ix5_of_mem (by decide) hi
  conv_rhs => rw [e]
  rw [nxt_prv]; rfl
omit [FloatOps F] [Named F] in
/-- and its right neighbour's slot 0. -/
theorem full_right (g : Dev nD → Vec F S2x128x4x64 .bf16) (c : Dev nD) (i : S3x2x4x128x64.Idx) (hi : i ∈ slotSet 0) :
    fullOf (g (prv c)) (g c) (g (nxt c)) (ix5 ⟨1, by decide⟩ (i 1) (i 2) (i 3) (i 4))
      = fullOf (g (prv (nxt c))) (g (nxt c)) (g (nxt (nxt c))) i := by
  have e := ix5_of_mem (by decide) hi
  conv_rhs => rw [e]
  rw [prv_nxt]; rfl

theorem k_stored (c : Dev nD) (q : PosShare TreeShare) (f : S3x2x4x128x64.Idx → Elt F .bf16) :
    (kreg c 1 q (put8 (kstg m ρ c) f) : sProp 𝕄) = kreg c 1 q (kfull m ρ c) := by
  unfold kreg
  refine pointsTo_congr fun i hi => ?_
  rw [put8_slot _ _ _ hi]
  have e := ix5_of_mem (by decide) hi
  conv_rhs => rw [e]
  rfl
theorem v_stored (c : Dev nD) (q : PosShare TreeShare) (f : S3x2x4x128x64.Idx → Elt F .bf16) :
    (vreg c 1 q (put8 (vstg m ρ c) f) : sProp 𝕄) = vreg c 1 q (vfull m ρ c) := by
  unfold vreg
  refine pointsTo_congr fun i hi => ?_
  rw [put8_slot _ _ _ hi]
  have e := ix5_of_mem (by decide) hi
  conv_rhs => rw [e]
  rfl

theorem kslot_pts (c : Dev nD) (s : ℕ) (hs : s < 3) (q : PosShare TreeShare) (f : S3x2x4x128x64.Idx → Elt F .bf16) :
    (((kslot s hs).view.loc (c : Thread nD τ) ↦[(kslot s hs).view.set]{q} f) : sProp 𝕄) = kreg c s q f := by
  rw [kslot_set]; rfl
theorem vslot_pts (c : Dev nD) (s : ℕ) (hs : s < 3) (q : PosShare TreeShare) (f : S3x2x4x128x64.Idx → Elt F .bf16) :
    (((vslot s hs).view.loc (c : Thread nD τ) ↦[(vslot s hs).view.set]{q} f) : sProp 𝕄) = vreg c s q f := by
  rw [vslot_set]; rfl

theorem k_left (c : Dev nD) (f : S3x2x4x128x64.Idx → Elt F .bf16) :
    (kreg (prv c) 2 fullShare ((kslot 2 h2).view.write (Elt F) f ((kslot 1 h1).view.read (Elt F) (kfull m ρ c)) Finset.univ) : sProp 𝕄)
      = kreg (prv c) 2 fullShare (kfull m ρ (prv c)) := by
  unfold kreg
  refine pointsTo_congr fun i hi => ?_
  exact (kslot_copy 2 1 _ _ f _ i hi).trans (full_left (kstg m ρ) c i hi)
theorem k_right (c : Dev nD) (f : S3x2x4x128x64.Idx → Elt F .bf16) :
    (kreg (nxt c) 0 fullShare ((kslot 0 h0).view.write (Elt F) f ((kslot 1 h1).view.read (Elt F) (kfull m ρ c)) Finset.univ) : sProp 𝕄)
      = kreg (nxt c) 0 fullShare (kfull m ρ (nxt c)) := by
  unfold kreg
  refine pointsTo_congr fun i hi => ?_
  exact (kslot_copy 0 1 _ _ f _ i hi).trans (full_right (kstg m ρ) c i hi)
theorem v_left (c : Dev nD) (f : S3x2x4x128x64.Idx → Elt F .bf16) :
    (vreg (prv c) 2 fullShare ((vslot 2 h2).view.write (Elt F) f ((vslot 1 h1).view.read (Elt F) (vfull m ρ c)) Finset.univ) : sProp 𝕄)
      = vreg (prv c) 2 fullShare (vfull m ρ (prv c)) := by
  unfold vreg
  refine pointsTo_congr fun i hi => ?_
  exact (vslot_copy 2 1 _ _ f _ i hi).trans (full_left (vstg m ρ) c i hi)
theorem v_right (c : Dev nD) (f : S3x2x4x128x64.Idx → Elt F .bf16) :
    (vreg (nxt c) 0 fullShare ((vslot 0 h0).view.write (Elt F) f ((vslot 1 h1).view.read (Elt F) (vfull m ρ c)) Finset.univ) : sProp 𝕄)
      = vreg (nxt c) 0 fullShare (vfull m ρ (nxt c)) := by
  unfold vreg
  refine pointsTo_congr fun i hi => ?_
  exact (vslot_copy 0 1 _ _ f _ i hi).trans (full_right (vstg m ρ) c i hi)

/-! ### The four transfers -/

section Four

variable (c n : Dev nD) (qS qR : DmaSem sig)

/-- The K block to the left neighbour's slot 2. -/
theorem wp_xfer0 (hn : n = prv c) (hqS : qS = sS 0) (hqR : qR = sR 0) {hsc} {hsrc} {hdst} {hsem} (f : S3x2x4x128x64.Idx → Elt F .bf16) {α : Type} {Q : α → sProp 𝕄} {k : PUnit → Prog (TpuEff nD τ sig (Elt F) Λ₀ .tc) α} :
    iprop(records m ρ K ∗ ow c (O₁ c) ∗ xtoks 0 c ∗ kreg c 1 fullShare.left (kfull m ρ c) ∗ kreg (prv c) 2 fullShare f)
      ⊢ iprop(((ow c (O₂ c) ∗ cred (tallyAt (sendCell 0 c) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kslot 1 h1) (.remote (Dev.tc n : Thread nD τ) (kslot 2 h2) (.dma qS) hsc) (.dma qR) hsrc hdst hsem) k) Q) := by
  rw [← kslot_pts c 1 h1, ← kslot_pts (prv c) 2 h2]
  subst hn
  have e1 : (((kslot 1 h1).view.loc (c : Thread nD τ) ↦[(kslot 1 h1).view.set]{fullShare.left} (kfull m ρ c)) : sProp 𝕄) = xferPay m ρ c (sS 0) := by
    rw [kslot_pts, pay_S0]
  have e2 : (((kslot 2 h2).view.loc (Dev.tc (prv c) : Thread nD τ) ↦[(kslot 2 h2).view.set]{fullShare} ((kslot 2 h2).view.write (Elt F) f ((kslot 1 h1).view.read (Elt F) (kfull m ρ c)) Finset.univ)) : sProp 𝕄) = xferPay m ρ (prv c) (sR 0) := by
    rw [pay_R0, ← k_left m ρ c f, ← kslot_pts (prv c) 2 h2]
  have hh := wp_xfer m ρ K 0 c (prv c) rfl qS qR hqS hqR (kslot_credit 2 h2) fullShare.left (kfull m ρ c) f (O₂ c)
    (Entails.of_eq e1) (Entails.of_eq e2) (hsc := hsc) (hsrc := hsrc) (hdst := hdst) (hsem := hsem) (Q := Q) (k := k)
  unfold O₁
  with_reducible exact hh
/-- The K block to the right neighbour's slot 0. -/
theorem wp_xfer1 (hn : n = nxt c) (hqS : qS = sS 1) (hqR : qR = sR 1) {hsc} {hsrc} {hdst} {hsem} (f : S3x2x4x128x64.Idx → Elt F .bf16) {α : Type} {Q : α → sProp 𝕄} {k : PUnit → Prog (TpuEff nD τ sig (Elt F) Λ₀ .tc) α} :
    iprop(records m ρ K ∗ ow c (O₂ c) ∗ xtoks 1 c ∗ kreg c 1 fullShare.right (kfull m ρ c) ∗ kreg (nxt c) 0 fullShare f)
      ⊢ iprop(((ow c (O₃ c) ∗ cred (tallyAt (sendCell 1 c) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kslot 1 h1) (.remote (Dev.tc n : Thread nD τ) (kslot 0 h0) (.dma qS) hsc) (.dma qR) hsrc hdst hsem) k) Q) := by
  rw [← kslot_pts c 1 h1, ← kslot_pts (nxt c) 0 h0]
  subst hn
  have e1 : (((kslot 1 h1).view.loc (c : Thread nD τ) ↦[(kslot 1 h1).view.set]{fullShare.right} (kfull m ρ c)) : sProp 𝕄) = xferPay m ρ c (sS 1) := by
    rw [kslot_pts, pay_S1]
  have e2 : (((kslot 0 h0).view.loc (Dev.tc (nxt c) : Thread nD τ) ↦[(kslot 0 h0).view.set]{fullShare} ((kslot 0 h0).view.write (Elt F) f ((kslot 1 h1).view.read (Elt F) (kfull m ρ c)) Finset.univ)) : sProp 𝕄) = xferPay m ρ (nxt c) (sR 1) := by
    rw [pay_R1, ← k_right m ρ c f, ← kslot_pts (nxt c) 0 h0]
  have hh := wp_xfer m ρ K 1 c (nxt c) rfl qS qR hqS hqR (kslot_credit 0 h0) fullShare.right (kfull m ρ c) f (O₃ c)
    (Entails.of_eq e1) (Entails.of_eq e2) (hsc := hsc) (hsrc := hsrc) (hdst := hdst) (hsem := hsem) (Q := Q) (k := k)
  unfold O₂
  with_reducible exact hh
/-- The V block to the left neighbour's slot 2. -/
theorem wp_xfer2 (hn : n = prv c) (hqS : qS = sS 2) (hqR : qR = sR 2) {hsc} {hsrc} {hdst} {hsem} (f : S3x2x4x128x64.Idx → Elt F .bf16) {α : Type} {Q : α → sProp 𝕄} {k : PUnit → Prog (TpuEff nD τ sig (Elt F) Λ₀ .tc) α} :
    iprop(records m ρ K ∗ ow c (O₃ c) ∗ xtoks 2 c ∗ vreg c 1 fullShare.left (vfull m ρ c) ∗ vreg (prv c) 2 fullShare f)
      ⊢ iprop(((ow c (O₄ c) ∗ cred (tallyAt (sendCell 2 c) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vslot 1 h1) (.remote (Dev.tc n : Thread nD τ) (vslot 2 h2) (.dma qS) hsc) (.dma qR) hsrc hdst hsem) k) Q) := by
  rw [← vslot_pts c 1 h1, ← vslot_pts (prv c) 2 h2]
  subst hn
  have e1 : (((vslot 1 h1).view.loc (c : Thread nD τ) ↦[(vslot 1 h1).view.set]{fullShare.left} (vfull m ρ c)) : sProp 𝕄) = xferPay m ρ c (sS 2) := by
    rw [vslot_pts, pay_S2]
  have e2 : (((vslot 2 h2).view.loc (Dev.tc (prv c) : Thread nD τ) ↦[(vslot 2 h2).view.set]{fullShare} ((vslot 2 h2).view.write (Elt F) f ((vslot 1 h1).view.read (Elt F) (vfull m ρ c)) Finset.univ)) : sProp 𝕄) = xferPay m ρ (prv c) (sR 2) := by
    rw [pay_R2, ← v_left m ρ c f, ← vslot_pts (prv c) 2 h2]
  have hh := wp_xfer m ρ K 2 c (prv c) rfl qS qR hqS hqR (vslot_credit 2 h2) fullShare.left (vfull m ρ c) f (O₄ c)
    (Entails.of_eq e1) (Entails.of_eq e2) (hsc := hsc) (hsrc := hsrc) (hdst := hdst) (hsem := hsem) (Q := Q) (k := k)
  unfold O₃
  with_reducible exact hh
/-- The V block to the right neighbour's slot 0; nothing is owed after it. -/
theorem wp_xfer3 (hn : n = nxt c) (hqS : qS = sS 3) (hqR : qR = sR 3) {hsc} {hsrc} {hdst} {hsem} (f : S3x2x4x128x64.Idx → Elt F .bf16) {α : Type} {Q : α → sProp 𝕄} {k : PUnit → Prog (TpuEff nD τ sig (Elt F) Λ₀ .tc) α} :
    iprop(records m ρ K ∗ ow c (O₄ c) ∗ xtoks 3 c ∗ vreg c 1 fullShare.right (vfull m ρ c) ∗ vreg (nxt c) 0 fullShare f)
      ⊢ iprop(((ow c (0) ∗ cred (tallyAt (sendCell 3 c) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vslot 1 h1) (.remote (Dev.tc n : Thread nD τ) (vslot 0 h0) (.dma qS) hsc) (.dma qR) hsrc hdst hsem) k) Q) := by
  rw [← vslot_pts c 1 h1, ← vslot_pts (nxt c) 0 h0]
  subst hn
  have e1 : (((vslot 1 h1).view.loc (c : Thread nD τ) ↦[(vslot 1 h1).view.set]{fullShare.right} (vfull m ρ c)) : sProp 𝕄) = xferPay m ρ c (sS 3) := by
    rw [vslot_pts, pay_S3]
  have e2 : (((vslot 0 h0).view.loc (Dev.tc (nxt c) : Thread nD τ) ↦[(vslot 0 h0).view.set]{fullShare} ((vslot 0 h0).view.write (Elt F) f ((vslot 1 h1).view.read (Elt F) (vfull m ρ c)) Finset.univ)) : sProp 𝕄) = xferPay m ρ (nxt c) (sR 3) := by
    rw [pay_R3, ← v_right m ρ c f, ← vslot_pts (nxt c) 0 h0]
  have hh := wp_xfer m ρ K 3 c (nxt c) rfl qS qR hqS hqR (vslot_credit 0 h0) fullShare.right (vfull m ρ c) f (0)
    (Entails.of_eq e1) (Entails.of_eq e2) (hsc := hsc) (hsrc := hsrc) (hdst := hdst) (hsem := hsem) (Q := Q) (k := k)
  unfold O₄
  with_reducible exact hh

/-! ### Stores and loads of the halo buffers -/

/-- A head of the K buffer's middle slot, loaded (the value is not used). -/
theorem wp_loadHeadK (b h : ℕ) (hb : b < 2) (hh : h < 4) (f : S3x2x4x128x64.Idx → Elt F .bf16) {hl} {α : Type} {Q : α → sProp 𝕄} {k : Vec F S1x1x1x128x64 .bf16 → Prog (TpuEff nD τ sig (Elt F) Λ₀ .tc) α} :
    (kreg c 1 fullShare f : sProp 𝕄)
      ⊢ iprop((kreg c 1 fullShare f -∗ wp frame (wpE (defs₀ (F := F)) 𝒱₀ (c : Thread nD τ) none) Set.univ (k (kM.view.readAt (Elt F) (headR b h hb hh).toLoadRect f)) Q)
          -∗ wp frame (wpE (defs₀ (F := F)) 𝒱₀ (c : Thread nD τ) none) Set.univ (.op (.load kM (headR b h hb hh).toLoadRect hl) k) Q) :=
  wp_load_rect 𝒱₀ (c : Thread nD τ) none Set.univ (m := kM) (r := headR b h hb hh) (head_subset b h hb hh)
theorem wp_loadHeadV (b h : ℕ) (hb : b < 2) (hh : h < 4) (f : S3x2x4x128x64.Idx → Elt F .bf16) {hl} {α : Type} {Q : α → sProp 𝕄} {k : Vec F S1x1x1x128x64 .bf16 → Prog (TpuEff nD τ sig (Elt F) Λ₀ .tc) α} :
    (vreg c 1 fullShare f : sProp 𝕄)
      ⊢ iprop((vreg c 1 fullShare f -∗ wp frame (wpE (defs₀ (F := F)) 𝒱₀ (c : Thread nD τ) none) Set.univ (k (vM.view.readAt (Elt F) (headR b h hb hh).toLoadRect f)) Q)
          -∗ wp frame (wpE (defs₀ (F := F)) 𝒱₀ (c : Thread nD τ) none) Set.univ (.op (.load vM (headR b h hb hh).toLoadRect hl) k) Q) :=
  wp_load_rect 𝒱₀ (c : Thread nD τ) none Set.univ (m := vM) (r := headR b h hb hh) (head_subset b h hb hh)
/-- A head of the K buffer's middle slot, stored. -/
theorem wp_storeHeadK (b h : ℕ) (hb : b < 2) (hh : h < 4) (f : S3x2x4x128x64.Idx → Elt F .bf16) (w : Vec F S1x1x1x128x64 .bf16) {hx} {hm} {α : Type} {Q : α → sProp 𝕄} {k : PUnit → Prog (TpuEff nD τ sig (Elt F) Λ₀ .tc) α} :
    (kreg c 1 fullShare f : sProp 𝕄)
      ⊢ iprop((kreg c 1 fullShare (put b h w f) -∗ wp frame (wpE (defs₀ (F := F)) 𝒱₀ (c : Thread nD τ) none) Set.univ (k ⟨⟩) Q)
          -∗ wp frame (wpE (defs₀ (F := F)) 𝒱₀ (c : Thread nD τ) none) Set.univ (.op (.store kM (headR b h hb hh) w Finset.univ hx hm) k) Q) := by
  rw [← head_put_k b h hb hh]
  exact wp_store 𝒱₀ (c : Thread nD τ) none Set.univ (m := kM) (r := headR b h hb hh) (Mk := Finset.univ) (head_subset b h hb hh)
theorem wp_storeHeadV (b h : ℕ) (hb : b < 2) (hh : h < 4) (f : S3x2x4x128x64.Idx → Elt F .bf16) (w : Vec F S1x1x1x128x64 .bf16) {hx} {hm} {α : Type} {Q : α → sProp 𝕄} {k : PUnit → Prog (TpuEff nD τ sig (Elt F) Λ₀ .tc) α} :
    (vreg c 1 fullShare f : sProp 𝕄)
      ⊢ iprop((vreg c 1 fullShare (put b h w f) -∗ wp frame (wpE (defs₀ (F := F)) 𝒱₀ (c : Thread nD τ) none) Set.univ (k ⟨⟩) Q)
          -∗ wp frame (wpE (defs₀ (F := F)) 𝒱₀ (c : Thread nD τ) none) Set.univ (.op (.store vM (headR b h hb hh) w Finset.univ hx hm) k) Q) := by
  rw [← head_put_v b h hb hh]
  exact wp_store 𝒱₀ (c : Thread nD τ) none Set.univ (m := vM) (r := headR b h hb hh) (Mk := Finset.univ) (head_subset b h hb hh)

end Four

/-! ## A buffer as its three slots -/

theorem slots_disjoint {s s' : ℕ} (h : s ≠ s') : Disjoint (slotSet s) (slotSet s') := by
  rw [Finset.disjoint_left]
  intro i hi hi'
  exact h (((mem_slotSet s i).1 hi).symm.trans ((mem_slotSet s' i).1 hi'))
theorem slots_univ : (Finset.univ : Finset S3x2x4x128x64.Idx) = slotSet 0 ∪ (slotSet 1 ∪ slotSet 2) := by
  ext i
  have h : (i 0).val < 3 := (i 0).isLt
  simp only [Finset.mem_univ, Finset.mem_union, mem_slotSet, true_iff]
  omega

omit [FloatOps F] [Named F] in
theorem k_split (c : Dev nD) (f : S3x2x4x128x64.Idx → Elt F .bf16) :
    (((c : Thread nD τ).loc cc0_scratch0 ↦{fullShare} f) : sProp 𝕄) ⊣⊢ iprop(kreg c 0 fullShare f ∗ kreg c 1 fullShare f ∗ kreg c 2 fullShare f) := by
  unfold kreg
  have e : (((c : Thread nD τ).loc cc0_scratch0 ↦{fullShare} f) : sProp 𝕄)
      = ((c : Thread nD τ).loc cc0_scratch0 ↦[(slotSet 0 ∪ (slotSet 1 ∪ slotSet 2) : Finset S3x2x4x128x64.Idx)]{fullShare} f) := by
    rw [← slots_univ]
  rw [e]
  have d12 : Disjoint (slotSet 1) (slotSet 2) := slots_disjoint (by decide)
  have d0 : Disjoint (slotSet 0) (slotSet 1 ∪ slotSet 2) :=
    Finset.disjoint_union_right.2 ⟨slots_disjoint (by decide), slots_disjoint (by decide)⟩
  exact (pointsTo_union d0).trans (sep_congr_right (pointsTo_union d12))
omit [FloatOps F] [Named F] in
theorem v_split (c : Dev nD) (f : S3x2x4x128x64.Idx → Elt F .bf16) :
    (((c : Thread nD τ).loc cc0_scratch1 ↦{fullShare} f) : sProp 𝕄) ⊣⊢ iprop(vreg c 0 fullShare f ∗ vreg c 1 fullShare f ∗ vreg c 2 fullShare f) := by
  unfold vreg
  have e : (((c : Thread nD τ).loc cc0_scratch1 ↦{fullShare} f) : sProp 𝕄)
      = ((c : Thread nD τ).loc cc0_scratch1 ↦[(slotSet 0 ∪ (slotSet 1 ∪ slotSet 2) : Finset S3x2x4x128x64.Idx)]{fullShare} f) := by
    rw [← slots_univ]
  rw [e]
  have d12 : Disjoint (slotSet 1) (slotSet 2) := slots_disjoint (by decide)
  have d0 : Disjoint (slotSet 0) (slotSet 1 ∪ slotSet 2) :=
    Finset.disjoint_union_right.2 ⟨slots_disjoint (by decide), slots_disjoint (by decide)⟩
  exact (pointsTo_union d0).trans (sep_congr_right (pointsTo_union d12))

omit [FloatOps F] [Named F] in
/-- A slot as its two halves. -/
theorem k_halves (c : Dev nD) (s : ℕ) (f : S3x2x4x128x64.Idx → Elt F .bf16) :
    (kreg c s fullShare f : sProp 𝕄) ⊣⊢ iprop(kreg c s fullShare.left f ∗ kreg c s fullShare.right f) := by
  unfold kreg; exact pointsTo_share (PosShare.mem_left_op_right fullShare)
omit [FloatOps F] [Named F] in
theorem v_halves (c : Dev nD) (s : ℕ) (f : S3x2x4x128x64.Idx → Elt F .bf16) :
    (vreg c s fullShare f : sProp 𝕄) ⊣⊢ iprop(vreg c s fullShare.left f ∗ vreg c s fullShare.right f) := by
  unfold vreg; exact pointsTo_share (PosShare.mem_left_op_right fullShare)

end Cert.Halo

end
-- ==== Proof.Body1.lean ====
/-
# The first half of the body's run

The signals, the two blocks stored head by head into the middle slots, the barrier wait and the K transfers, one
statement per printed part of the body.
-/
module

public import proofs.«01_k».proof.Proof.Steps

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 9 → ℕ)

/-- The staging buffers the body is called on. -/
abbrev xM : Memref sig .tc .vmem S2x128x512 .bf16 := Memref.whole cc0_stg0_0
abbrev wqM : Memref sig .tc .vmem S512x256 .bf16 := Memref.whole cc0_stg1_0
abbrev kinM : Memref sig .tc .vmem S2x128x4x64 .bf16 := Memref.whole cc0_stg2_0
abbrev vinM : Memref sig .tc .vmem S2x128x4x64 .bf16 := Memref.whole cc0_stg3_0
abbrev woM : Memref sig .tc .vmem S256x512 .bf16 := Memref.whole cc0_stg4_0
abbrev outM : Memref sig .tc .vmem S2x128x512 .f32 := Memref.whole cc0_stg5_0

/-- A staging buffer held whole. -/
abbrev sp (c : Dev nD) (b : Ref sig .tc) (f : Buf (Elt F) ((c : Thread nD τ).loc b)) : sProp 𝕄 := (c : Thread nD τ).loc b ↦{fullShare} f

/-- The device's position in the ring, as the word the kernel computes. -/
def my (c : Dev nD) : BitVec 32 := Scalar.remsi (Scalar.divsi (Dev.word c) 1#32) 4#32

/-- The semaphores the printed text slices out of its two arrays. -/
theorem s2_eq0 : (((cc0_scratch2 : DmaSems sig S4).slice (Rect.unit (s := S4) ![0] S1.size inb_S4_S1_0)).squeeze S_ squeezes_S1_S_).sem = sS 0 := by decide
theorem s3_eq0 : (((cc0_scratch3 : DmaSems sig S4).slice (Rect.unit (s := S4) ![0] S1.size inb_S4_S1_0)).squeeze S_ squeezes_S1_S_).sem = sR 0 := by decide
theorem s2_eq1 : (((cc0_scratch2 : DmaSems sig S4).slice (Rect.unit (s := S4) ![1] S1.size inb_S4_S1_1)).squeeze S_ squeezes_S1_S_).sem = sS 1 := by decide
theorem s3_eq1 : (((cc0_scratch3 : DmaSems sig S4).slice (Rect.unit (s := S4) ![1] S1.size inb_S4_S1_1)).squeeze S_ squeezes_S1_S_).sem = sR 1 := by decide
theorem s2_eq2 : (((cc0_scratch2 : DmaSems sig S4).slice (Rect.unit (s := S4) ![2] S1.size inb_S4_S1_2)).squeeze S_ squeezes_S1_S_).sem = sS 2 := by decide
theorem s3_eq2 : (((cc0_scratch3 : DmaSems sig S4).slice (Rect.unit (s := S4) ![2] S1.size inb_S4_S1_2)).squeeze S_ squeezes_S1_S_).sem = sR 2 := by decide
theorem s2_eq3 : (((cc0_scratch2 : DmaSems sig S4).slice (Rect.unit (s := S4) ![3] S1.size inb_S4_S1_3)).squeeze S_ squeezes_S1_S_).sem = sS 3 := by decide
theorem s3_eq3 : (((cc0_scratch3 : DmaSems sig S4).slice (Rect.unit (s := S4) ![3] S1.size inb_S4_S1_3)).squeeze S_ squeezes_S1_S_).sem = sR 3 := by decide

/-! ## The heads stored -/

theorem pay3_eq : k0_pay3 (F := F) = k0_pay2 := rfl
theorem pay4_eq : k0_pay4 (F := F) = k0_pay2 := rfl
theorem pay5_eq : k0_pay5 (F := F) = k0_pay2 := rfl
theorem pay6_eq : k0_pay6 (F := F) = k0_pay2 := rfl
theorem pay7_eq : k0_pay7 (F := F) = k0_pay2 := rfl
theorem pay8_eq : k0_pay8 (F := F) = k0_pay2 := rfl
theorem pay9_eq : k0_pay9 (F := F) = k0_pay2 := rfl
theorem pay11_eq (v : Vec F S1x128x1x64 .bf16) : k0_pay11 (k0_pay10 v) = k0_pay2 v := rfl
theorem pay12_eq : k0_pay12 (F := F) = k0_pay2 := rfl
theorem pay13_eq : k0_pay13 (F := F) = k0_pay2 := rfl
theorem pay14_eq : k0_pay14 (F := F) = k0_pay2 := rfl
theorem pay16_eq (v : Vec F S1x128x1x64 .bf16) : k0_pay16 (k0_pay15 v) = k0_pay2 v := rfl
theorem pay17_eq : k0_pay17 (F := F) = k0_pay2 := rfl
theorem pay18_eq : k0_pay18 (F := F) = k0_pay2 := rfl
theorem pay19_eq : k0_pay19 (F := F) = k0_pay2 := rfl

/-- Batch 0's four heads stored; batch 1's four. -/
def put0 (g : Vec F S2x128x4x64 .bf16) (f : S3x2x4x128x64.Idx → Elt F .bf16) : S3x2x4x128x64.Idx → Elt F .bf16 :=
  put 0 3 (k0_pay2 (headOf g 0 3)) <| put 0 2 (k0_pay2 (headOf g 0 2)) <| put 0 1 (k0_pay2 (headOf g 0 1)) <| put 0 0 (k0_pay2 (headOf g 0 0)) f
def put1 (g : Vec F S2x128x4x64 .bf16) (f : S3x2x4x128x64.Idx → Elt F .bf16) : S3x2x4x128x64.Idx → Elt F .bf16 :=
  put 1 3 (k0_pay2 (headOf g 1 3)) <| put 1 2 (k0_pay2 (headOf g 1 2)) <| put 1 1 (k0_pay2 (headOf g 1 1)) <| put 1 0 (k0_pay2 (headOf g 1 0)) f
theorem put1_put0 (g : Vec F S2x128x4x64 .bf16) (f : S3x2x4x128x64.Idx → Elt F .bf16) : put1 g (put0 g f) = put8 g f := rfl

/-- A load of one head of the staged K block, and of the staged V block. -/
theorem wp_loadStgK (c : Dev nD) (b h : ℕ) (hb : b < 2) (hh : h < 4) (g : Vec F S2x128x4x64 .bf16) {hl} {α : Type} {Q : α → sProp 𝕄}
    {k : Vec F S1x128x1x64 .bf16 → Prog (TpuEff nD τ sig (Elt F) Λ₀ .tc) α} :
    (sp c cc0_stg2_0 g : sProp 𝕄)
      ⊢ iprop((sp c cc0_stg2_0 g -∗ wp frame (wpE (defs₀ (F := F)) 𝒱₀ (c : Thread nD τ) none) Set.univ (k (headOf g b h hb hh)) Q)
          -∗ wp frame (wpE (defs₀ (F := F)) 𝒱₀ (c : Thread nD τ) none) Set.univ (.op (.load kinM (kheadR b h hb hh).toLoadRect hl) k) Q) := by
  have e : kinM.view.readAt (Elt F) (kheadR b h hb hh).toLoadRect g = headOf g b h hb hh := by
    funext x; unfold headOf; rfl
  rw [← e]
  exact wp_load 𝒱₀ (c : Thread nD τ) none Set.univ (m := kinM) (r := (kheadR b h hb hh).toLoadRect) (Finset.subset_univ _)
theorem wp_loadStgV (c : Dev nD) (b h : ℕ) (hb : b < 2) (hh : h < 4) (g : Vec F S2x128x4x64 .bf16) {hl} {α : Type} {Q : α → sProp 𝕄}
    {k : Vec F S1x128x1x64 .bf16 → Prog (TpuEff nD τ sig (Elt F) Λ₀ .tc) α} :
    (sp c cc0_stg3_0 g : sProp 𝕄)
      ⊢ iprop((sp c cc0_stg3_0 g -∗ wp frame (wpE (defs₀ (F := F)) 𝒱₀ (c : Thread nD τ) none) Set.univ (k (headOf g b h hb hh)) Q)
          -∗ wp frame (wpE (defs₀ (F := F)) 𝒱₀ (c : Thread nD τ) none) Set.univ (.op (.load vinM (kheadR b h hb hh).toLoadRect hl) k) Q) := by
  have e : vinM.view.readAt (Elt F) (kheadR b h hb hh).toLoadRect g = headOf g b h hb hh := by
    funext x; unfold headOf; rfl
  rw [← e]
  exact wp_load 𝒱₀ (c : Thread nD τ) none Set.univ (m := vinM) (r := (kheadR b h hb hh).toLoadRect) (Finset.subset_univ _)

set_option maxHeartbeats 1600000 in
/-- The two signals, handing slot 0 to the left neighbour and slot 2 to the right. -/
theorem part1_run (c : Dev nD)  (Q : _ → sProp 𝕄) :
    iprop(records m ρ K ∗ ow c (O₀ c) ∗ dutyTok ER (barCell (prv c)) 0 true ∗ dutyTok ER (barCell (nxt c)) 0 false ∗ barPay (prv c) true ∗ barPay (nxt c) false ∗ (∀ v14 v25, ow c (O₁ c) -∗ Q ⟨c, my c, v14, v25, SemArray.scalar (sig.barrier 0 rfl)⟩))
      ⊢ wp frame (wpE (defs₀ (F := F)) 𝒱₀ (c : Thread nD τ) none) Set.univ (k0_part1 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3) Q := by
  rw [k0_part1_eq_skeleton]; unfold k0_part1_skel my
  simp only [semSignalWord, semWaitWord, Prog.lift, Prog.bind_op, Prog.bind_ret, Prog.pure_eq_ret, wp_deviceId]
  iintro ⟨#HR, HO, HtP, HtN, HpP, HpN, Hk⟩
  iapply (wp_sig m ρ K c (prv c) _ (dev1_eq c) true _ (by decide) (O₀ c) (Ob c) rfl) $$ [HO HtP HpP]
  · isplitr; · iexact HR
    isplitl [HO]; · iexact HO
    isplitl [HtP]; · iexact HtP
    iexact HpP
  iintro HO
  iapply (wp_sig m ρ K c (nxt c) _ (dev2_eq c) false _ (by decide) (Ob c) (O₁ c) rfl) $$ [HO HtN HpN]
  · isplitr; · iexact HR
    isplitl [HO]; · iexact HO
    isplitl [HtN]; · iexact HtN
    iexact HpN
  iintro HO
  rw [wp_ret]; imodintro
  iapply Hk
  iexact HO

set_option maxHeartbeats 1600000 in
/-- Batch 0 of the K block stored. -/
theorem part2_run (c : Dev nD) (g : Vec F S2x128x4x64 .bf16) (f : S3x2x4x128x64.Idx → Elt F .bf16) (Q : _ → sProp 𝕄) :
    iprop(sp c cc0_stg2_0 g ∗ kreg c 1 fullShare f ∗ ((sp c cc0_stg2_0 g ∗ kreg c 1 fullShare (put0 g f)) -∗ Q ⟨⟩))
      ⊢ wp frame (wpE (defs₀ (F := F)) 𝒱₀ (c : Thread nD τ) none) Set.univ (k0_part2 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3) Q := by
  rw [k0_part2_eq_skeleton]; unfold k0_part2_skel
  simp only [semSignalWord, semWaitWord, Prog.lift, Prog.bind_op, Prog.bind_ret, Prog.pure_eq_ret, wp_deviceId]
  simp only [pay3_eq, pay4_eq, pay5_eq]
  iintro ⟨Hs, Hb, Hk⟩
  iapply (wp_loadStgK c 0 0 (by decide) (by decide) g) $$ Hs; iintro Hs
  iapply (wp_loadHeadK c 0 0 (by decide) (by decide) _) $$ Hb; iintro Hb
  iapply (wp_storeHeadK c 0 0 (by decide) (by decide) _ _) $$ Hb; iintro Hb
  iapply (wp_loadStgK c 0 1 (by decide) (by decide) g) $$ Hs; iintro Hs
  iapply (wp_loadHeadK c 0 1 (by decide) (by decide) _) $$ Hb; iintro Hb
  iapply (wp_storeHeadK c 0 1 (by decide) (by decide) _ _) $$ Hb; iintro Hb
  iapply (wp_loadStgK c 0 2 (by decide) (by decide) g) $$ Hs; iintro Hs
  iapply (wp_loadHeadK c 0 2 (by decide) (by decide) _) $$ Hb; iintro Hb
  iapply (wp_storeHeadK c 0 2 (by decide) (by decide) _ _) $$ Hb; iintro Hb
  iapply (wp_loadStgK c 0 3 (by decide) (by decide) g) $$ Hs; iintro Hs
  iapply (wp_loadHeadK c 0 3 (by decide) (by decide) _) $$ Hb; iintro Hb
  iapply (wp_storeHeadK c 0 3 (by decide) (by decide) _ _) $$ Hb; iintro Hb
  rw [wp_ret]; imodintro
  iapply Hk
  isplitl [Hs]; · iexact Hs
  iexact Hb

set_option maxHeartbeats 1600000 in
/-- Batch 1 of the K block stored; the barrier wait. -/
theorem part3_run (c : Dev nD) (g : Vec F S2x128x4x64 .bf16) (f : S3x2x4x128x64.Idx → Elt F .bf16) (Q : _ → sProp 𝕄) :
    iprop(records m ρ K ∗ levAts L lv ∗ ow c (O₁ c) ∗ cred (tallyAt (barCell c) () 2) ∗ atPos ER (barCell c) 0 ∅ 0 ∗ sp c cc0_stg2_0 g ∗ kreg c 1 fullShare f ∗ ((ow c (O₁ c) ∗ semVal (barCell c) 0 ∗ barPay c false ∗ barPay c true ∗ sp c cc0_stg2_0 g ∗ kreg c 1 fullShare (put1 g f)) -∗ Q ⟨⟩))
      ⊢ wp frame (wpE (defs₀ (F := F)) 𝒱₀ (c : Thread nD τ) none) Set.univ (k0_part3 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 (SemArray.scalar (sig.barrier 0 rfl))) Q := by
  rw [k0_part3_eq_skeleton]; unfold k0_part3_skel
  simp only [semSignalWord, semWaitWord, Prog.lift, Prog.bind_op, Prog.bind_ret, Prog.pure_eq_ret, wp_deviceId]
  simp only [pay6_eq, pay7_eq, pay8_eq, pay9_eq]
  iintro ⟨#HR, #Hlev, HO, Hc, Hat, Hs, Hb, Hk⟩
  iapply (wp_loadStgK c 1 0 (by decide) (by decide) g) $$ Hs; iintro Hs
  iapply (wp_loadHeadK c 1 0 (by decide) (by decide) _) $$ Hb; iintro Hb
  iapply (wp_storeHeadK c 1 0 (by decide) (by decide) _ _) $$ Hb; iintro Hb
  iapply (wp_loadStgK c 1 1 (by decide) (by decide) g) $$ Hs; iintro Hs
  iapply (wp_loadHeadK c 1 1 (by decide) (by decide) _) $$ Hb; iintro Hb
  iapply (wp_storeHeadK c 1 1 (by decide) (by decide) _ _) $$ Hb; iintro Hb
  iapply (wp_loadStgK c 1 2 (by decide) (by decide) g) $$ Hs; iintro Hs
  iapply (wp_loadHeadK c 1 2 (by decide) (by decide) _) $$ Hb; iintro Hb
  iapply (wp_storeHeadK c 1 2 (by decide) (by decide) _ _) $$ Hb; iintro Hb
  iapply (wp_loadStgK c 1 3 (by decide) (by decide) g) $$ Hs; iintro Hs
  iapply (wp_loadHeadK c 1 3 (by decide) (by decide) _) $$ Hb; iintro Hb
  iapply (wp_storeHeadK c 1 3 (by decide) (by decide) _ _) $$ Hb; iintro Hb
  iapply (wp_barwait m ρ K c _ (by decide)) $$ [HO Hc Hat]
  · isplitr; · iexact HR
    isplitr; · iexact Hlev
    isplitl [HO]; · iexact HO
    isplitl [Hc]; · iexact Hc
    iexact Hat
  iintro ⟨HO, Hz, Hp1, Hp2⟩
  rw [wp_ret]; imodintro
  iapply Hk
  isplitl [HO]; · iexact HO
  isplitl [Hz]; · iexact Hz
  isplitl [Hp1]; · iexact Hp1
  isplitl [Hp2]; · iexact Hp2
  isplitl [Hs]; · iexact Hs
  iexact Hb

set_option maxHeartbeats 1600000 in
/-- The two K transfers; the first head of the V block loaded. -/
theorem part4_run (c : Dev nD) (v14 v25 : BitVec 32) (g : Vec F S2x128x4x64 .bf16) (f0 f1 : S3x2x4x128x64.Idx → Elt F .bf16) (Q : _ → sProp 𝕄) :
    iprop(records m ρ K ∗ ow c (O₁ c) ∗ xtoks 0 c ∗ xtoks 1 c ∗ kreg c 1 fullShare.left (kfull m ρ c) ∗ kreg c 1 fullShare.right (kfull m ρ c) ∗ kreg (prv c) 2 fullShare f0 ∗ kreg (nxt c) 0 fullShare f1 ∗ sp c cc0_stg3_0 g ∗ ((ow c (O₃ c) ∗ cred (tallyAt (sendCell 0 c) () N) ∗ cred (tallyAt (sendCell 1 c) () N) ∗ sp c cc0_stg3_0 g) -∗ Q (k0_pay10 (headOf g 0 0))))
      ⊢ wp frame (wpE (defs₀ (F := F)) 𝒱₀ (c : Thread nD τ) none) Set.univ (k0_part4 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 c v14 v25) Q := by
  rw [k0_part4_eq_skeleton]; unfold k0_part4_skel
  simp only [semSignalWord, semWaitWord, Prog.lift, Prog.bind_op, Prog.bind_ret, Prog.pure_eq_ret, wp_deviceId]
  iintro ⟨#HR, HO, Ht0, Ht1, Hs0, Hs1, Hd0, Hd1, Hs, Hk⟩
  iapply (wp_xfer0 m ρ K c _ _ _ (dev3_eq c) s2_eq0 s3_eq0 f0) $$ [HO Ht0 Hs0 Hd0]
  · isplitr; · iexact HR
    isplitl [HO]; · iexact HO
    isplitl [Ht0]; · iexact Ht0
    isplitl [Hs0]; · iexact Hs0
    iexact Hd0
  iintro ⟨HO, Hc0⟩
  iapply (wp_xfer1 m ρ K c _ _ _ (dev4_eq c) s2_eq1 s3_eq1 f1) $$ [HO Ht1 Hs1 Hd1]
  · isplitr; · iexact HR
    isplitl [HO]; · iexact HO
    isplitl [Ht1]; · iexact Ht1
    isplitl [Hs1]; · iexact Hs1
    iexact Hd1
  iintro ⟨HO, Hc1⟩
  iapply (wp_loadStgV c 0 0 (by decide) (by decide) g) $$ Hs; iintro Hs
  rw [wp_ret]; imodintro
  iapply Hk
  isplitl [HO]; · iexact HO
  isplitl [Hc0]; · iexact Hc0
  isplitl [Hc1]; · iexact Hc1
  iexact Hs

set_option maxHeartbeats 1600000 in
/-- Batch 0 of the V block stored. -/
theorem part5_run (c : Dev nD) (g : Vec F S2x128x4x64 .bf16) (f : S3x2x4x128x64.Idx → Elt F .bf16) (Q : _ → sProp 𝕄) :
    iprop(sp c cc0_stg3_0 g ∗ vreg c 1 fullShare f ∗ ((sp c cc0_stg3_0 g ∗ vreg c 1 fullShare (put0 g f)) -∗ Q (k0_pay15 (headOf g 1 0))))
      ⊢ wp frame (wpE (defs₀ (F := F)) 𝒱₀ (c : Thread nD τ) none) Set.univ (k0_part5 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 (k0_pay10 (headOf g 0 0))) Q := by
  rw [k0_part5_eq_skeleton]; unfold k0_part5_skel
  simp only [semSignalWord, semWaitWord, Prog.lift, Prog.bind_op, Prog.bind_ret, Prog.pure_eq_ret, wp_deviceId]
  simp only [pay11_eq, pay12_eq, pay13_eq, pay14_eq]
  iintro ⟨Hs, Hb, Hk⟩
  iapply (wp_loadHeadV c 0 0 (by decide) (by decide) _) $$ Hb; iintro Hb
  iapply (wp_storeHeadV c 0 0 (by decide) (by decide) _ _) $$ Hb; iintro Hb
  iapply (wp_loadStgV c 0 1 (by decide) (by decide) g) $$ Hs; iintro Hs
  iapply (wp_loadHeadV c 0 1 (by decide) (by decide) _) $$ Hb; iintro Hb
  iapply (wp_storeHeadV c 0 1 (by decide) (by decide) _ _) $$ Hb; iintro Hb
  iapply (wp_loadStgV c 0 2 (by decide) (by decide) g) $$ Hs; iintro Hs
  iapply (wp_loadHeadV c 0 2 (by decide) (by decide) _) $$ Hb; iintro Hb
  iapply (wp_storeHeadV c 0 2 (by decide) (by decide) _ _) $$ Hb; iintro Hb
  iapply (wp_loadStgV c 0 3 (by decide) (by decide) g) $$ Hs; iintro Hs
  iapply (wp_loadHeadV c 0 3 (by decide) (by decide) _) $$ Hb; iintro Hb
  iapply (wp_storeHeadV c 0 3 (by decide) (by decide) _ _) $$ Hb; iintro Hb
  iapply (wp_loadStgV c 1 0 (by decide) (by decide) g) $$ Hs; iintro Hs
  rw [wp_ret]; imodintro
  iapply Hk
  isplitl [Hs]; · iexact Hs
  iexact Hb

set_option maxHeartbeats 1600000 in
/-- Batch 1 of the V block stored. -/
theorem part6_run (c : Dev nD) (v14 : BitVec 32) (g : Vec F S2x128x4x64 .bf16) (f : S3x2x4x128x64.Idx → Elt F .bf16) (Q : _ → sProp 𝕄) :
    iprop(sp c cc0_stg3_0 g ∗ vreg c 1 fullShare f ∗ ((sp c cc0_stg3_0 g ∗ vreg c 1 fullShare (put1 g f)) -∗ Q ⟨⟩))
      ⊢ wp frame (wpE (defs₀ (F := F)) 𝒱₀ (c : Thread nD τ) none) Set.univ (k0_part6 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v14 (k0_pay15 (headOf g 1 0))) Q := by
  rw [k0_part6_eq_skeleton]; unfold k0_part6_skel
  simp only [semSignalWord, semWaitWord, Prog.lift, Prog.bind_op, Prog.bind_ret, Prog.pure_eq_ret, wp_deviceId]
  simp only [pay16_eq, pay17_eq, pay18_eq, pay19_eq]
  iintro ⟨Hs, Hb, Hk⟩
  iapply (wp_loadHeadV c 1 0 (by decide) (by decide) _) $$ Hb; iintro Hb
  iapply (wp_storeHeadV c 1 0 (by decide) (by decide) _ _) $$ Hb; iintro Hb
  iapply (wp_loadStgV c 1 1 (by decide) (by decide) g) $$ Hs; iintro Hs
  iapply (wp_loadHeadV c 1 1 (by decide) (by decide) _) $$ Hb; iintro Hb
  iapply (wp_storeHeadV c 1 1 (by decide) (by decide) _ _) $$ Hb; iintro Hb
  iapply (wp_loadStgV c 1 2 (by decide) (by decide) g) $$ Hs; iintro Hs
  iapply (wp_loadHeadV c 1 2 (by decide) (by decide) _) $$ Hb; iintro Hb
  iapply (wp_storeHeadV c 1 2 (by decide) (by decide) _ _) $$ Hb; iintro Hb
  iapply (wp_loadStgV c 1 3 (by decide) (by decide) g) $$ Hs; iintro Hs
  iapply (wp_loadHeadV c 1 3 (by decide) (by decide) _) $$ Hb; iintro Hb
  iapply (wp_storeHeadV c 1 3 (by decide) (by decide) _ _) $$ Hb; iintro Hb
  rw [wp_ret]; imodintro
  iapply Hk
  isplitl [Hs]; · iexact Hs
  iexact Hb

end Cert.Halo

end
-- ==== Proof.Body2.lean ====
/-
# The second half of the body's run

The V transfers, the projections' loads, the waits, and the loads of the filled halo buffers, one statement per printed
part of the body.
-/
module

public import proofs.«01_k».proof.Proof.Body1

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 9 → ℕ)

theorem inb_h3 (b h : ℕ) (hb : b < 2) (hh : h < 4) :
    ∀ a, (![0, b, h, 0, 0] : Fin 5 → Nat) a + S3x1x1x128x64.size a ≤ S3x2x4x128x64.size a := by
  interval_cases b <;> interval_cases h <;> decide

/-- The rectangle of batch `b`, head `h` across the three slots. -/
abbrev h3R (b h : ℕ) (hb : b < 2) (hh : h < 4) : Rect S3x2x4x128x64 :=
  Rect.unit (s := S3x2x4x128x64) ![0, b, h, 0, 0] S3x1x1x128x64.size (inb_h3 b h hb hh)

/-- One head of a filled halo buffer, as a load reads it. -/
def h3 (f : S3x2x4x128x64.Idx → Elt F .bf16) (b h : ℕ) (hb : b < 2 := by decide) (hh : h < 4 := by decide) : Vec F S3x1x1x128x64 .bf16 :=
  fun x => f ((h3R b h hb hh).emb x)

theorem wp_load3K (c : Dev nD) (b h : ℕ) (hb : b < 2) (hh : h < 4) (f : S3x2x4x128x64.Idx → Elt F .bf16) {hl} {α : Type} {Q : α → sProp 𝕄}
    {k : Vec F S3x1x1x128x64 .bf16 → Prog (TpuEff nD τ sig (Elt F) Λ₀ .tc) α} :
    (sp c cc0_scratch0 f : sProp 𝕄)
      ⊢ iprop((sp c cc0_scratch0 f -∗ wp frame (wpE (defs₀ (F := F)) 𝒱₀ (c : Thread nD τ) none) Set.univ (k (h3 f b h hb hh)) Q)
          -∗ wp frame (wpE (defs₀ (F := F)) 𝒱₀ (c : Thread nD τ) none) Set.univ (.op (.load kM (h3R b h hb hh).toLoadRect hl) k) Q) := by
  have e : kM.view.readAt (Elt F) (h3R b h hb hh).toLoadRect f = h3 f b h hb hh := by
    funext x; unfold h3; rfl
  rw [← e]
  exact wp_load 𝒱₀ (c : Thread nD τ) none Set.univ (m := kM) (r := (h3R b h hb hh).toLoadRect) (Finset.subset_univ _)
theorem wp_load3V (c : Dev nD) (b h : ℕ) (hb : b < 2) (hh : h < 4) (f : S3x2x4x128x64.Idx → Elt F .bf16) {hl} {α : Type} {Q : α → sProp 𝕄}
    {k : Vec F S3x1x1x128x64 .bf16 → Prog (TpuEff nD τ sig (Elt F) Λ₀ .tc) α} :
    (sp c cc0_scratch1 f : sProp 𝕄)
      ⊢ iprop((sp c cc0_scratch1 f -∗ wp frame (wpE (defs₀ (F := F)) 𝒱₀ (c : Thread nD τ) none) Set.univ (k (h3 f b h hb hh)) Q)
          -∗ wp frame (wpE (defs₀ (F := F)) 𝒱₀ (c : Thread nD τ) none) Set.univ (.op (.load vM (h3R b h hb hh).toLoadRect hl) k) Q) := by
  have e : vM.view.readAt (Elt F) (h3R b h hb hh).toLoadRect f = h3 f b h hb hh := by
    funext x; unfold h3; rfl
  rw [← e]
  exact wp_load 𝒱₀ (c : Thread nD τ) none Set.univ (m := vM) (r := (h3R b h hb hh).toLoadRect) (Finset.subset_univ _)

theorem hz2 : (![0, 0] : Fin 2 → Nat) = fun _ => 0 := funext fun a => by fin_cases a <;> rfl
theorem hz3 : (![0, 0, 0] : Fin 3 → Nat) = fun _ => 0 := funext fun a => by fin_cases a <;> rfl
/-- A load of a whole staging buffer reads its contents. -/
theorem wp_load_xM (c : Dev nD) (f : Vec F S2x128x512 .bf16) {hl} {α : Type} {Q : α → sProp 𝕄}
    {k : Vec F S2x128x512 .bf16 → Prog (TpuEff nD τ sig (Elt F) Λ₀ .tc) α} :
    (sp c cc0_stg0_0 f : sProp 𝕄)
      ⊢ iprop((sp c cc0_stg0_0 f -∗ wp frame (wpE (defs₀ (F := F)) 𝒱₀ (c : Thread nD τ) none) Set.univ (k f) Q)
          -∗ wp frame (wpE (defs₀ (F := F)) 𝒱₀ (c : Thread nD τ) none) Set.univ (.op (.load xM (Rect.unit (s := S2x128x512) ![0, 0, 0] S2x128x512.size inb_S2x128x512_S2x128x512_0_0_0).toLoadRect hl) k) Q) := by
  have e : xM.view.readAt (Elt F) (Rect.unit (s := S2x128x512) ![0, 0, 0] S2x128x512.size inb_S2x128x512_S2x128x512_0_0_0).toLoadRect f = f :=
    Memref.readAt_unit_zero (Elt F) cc0_stg0_0 hz3 _ f
  have h : (sp c cc0_stg0_0 f : sProp 𝕄)
      ⊢ iprop((sp c cc0_stg0_0 f -∗ wp frame (wpE (defs₀ (F := F)) 𝒱₀ (c : Thread nD τ) none) Set.univ (k (xM.view.readAt (Elt F) (Rect.unit (s := S2x128x512) ![0, 0, 0] S2x128x512.size inb_S2x128x512_S2x128x512_0_0_0).toLoadRect f)) Q)
          -∗ wp frame (wpE (defs₀ (F := F)) 𝒱₀ (c : Thread nD τ) none) Set.univ (.op (.load xM (Rect.unit (s := S2x128x512) ![0, 0, 0] S2x128x512.size inb_S2x128x512_S2x128x512_0_0_0).toLoadRect hl) k) Q) :=
    wp_load 𝒱₀ (c : Thread nD τ) none Set.univ (m := xM) (r := (Rect.unit (s := S2x128x512) ![0, 0, 0] S2x128x512.size inb_S2x128x512_S2x128x512_0_0_0).toLoadRect) (Finset.subset_univ _)
  rw [e] at h
  exact h
/-- A load of a whole staging buffer reads its contents. -/
theorem wp_load_wqM (c : Dev nD) (f : Vec F S512x256 .bf16) {hl} {α : Type} {Q : α → sProp 𝕄}
    {k : Vec F S512x256 .bf16 → Prog (TpuEff nD τ sig (Elt F) Λ₀ .tc) α} :
    (sp c cc0_stg1_0 f : sProp 𝕄)
      ⊢ iprop((sp c cc0_stg1_0 f -∗ wp frame (wpE (defs₀ (F := F)) 𝒱₀ (c : Thread nD τ) none) Set.univ (k f) Q)
          -∗ wp frame (wpE (defs₀ (F := F)) 𝒱₀ (c : Thread nD τ) none) Set.univ (.op (.load wqM (Rect.unit (s := S512x256) ![0, 0] S512x256.size inb_S512x256_S512x256_0_0).toLoadRect hl) k) Q) := by
  have e : wqM.view.readAt (Elt F) (Rect.unit (s := S512x256) ![0, 0] S512x256.size inb_S512x256_S512x256_0_0).toLoadRect f = f :=
    Memref.readAt_unit_zero (Elt F) cc0_stg1_0 hz2 _ f
  have h : (sp c cc0_stg1_0 f : sProp 𝕄)
      ⊢ iprop((sp c cc0_stg1_0 f -∗ wp frame (wpE (defs₀ (F := F)) 𝒱₀ (c : Thread nD τ) none) Set.univ (k (wqM.view.readAt (Elt F) (Rect.unit (s := S512x256) ![0, 0] S512x256.size inb_S512x256_S512x256_0_0).toLoadRect f)) Q)
          -∗ wp frame (wpE (defs₀ (F := F)) 𝒱₀ (c : Thread nD τ) none) Set.univ (.op (.load wqM (Rect.unit (s := S512x256) ![0, 0] S512x256.size inb_S512x256_S512x256_0_0).toLoadRect hl) k) Q) :=
    wp_load 𝒱₀ (c : Thread nD τ) none Set.univ (m := wqM) (r := (Rect.unit (s := S512x256) ![0, 0] S512x256.size inb_S512x256_S512x256_0_0).toLoadRect) (Finset.subset_univ _)
  rw [e] at h
  exact h
/-- A load of a whole staging buffer reads its contents. -/
theorem wp_load_woM (c : Dev nD) (f : Vec F S256x512 .bf16) {hl} {α : Type} {Q : α → sProp 𝕄}
    {k : Vec F S256x512 .bf16 → Prog (TpuEff nD τ sig (Elt F) Λ₀ .tc) α} :
    (sp c cc0_stg4_0 f : sProp 𝕄)
      ⊢ iprop((sp c cc0_stg4_0 f -∗ wp frame (wpE (defs₀ (F := F)) 𝒱₀ (c : Thread nD τ) none) Set.univ (k f) Q)
          -∗ wp frame (wpE (defs₀ (F := F)) 𝒱₀ (c : Thread nD τ) none) Set.univ (.op (.load woM (Rect.unit (s := S256x512) ![0, 0] S256x512.size inb_S256x512_S256x512_0_0).toLoadRect hl) k) Q) := by
  have e : woM.view.readAt (Elt F) (Rect.unit (s := S256x512) ![0, 0] S256x512.size inb_S256x512_S256x512_0_0).toLoadRect f = f :=
    Memref.readAt_unit_zero (Elt F) cc0_stg4_0 hz2 _ f
  have h : (sp c cc0_stg4_0 f : sProp 𝕄)
      ⊢ iprop((sp c cc0_stg4_0 f -∗ wp frame (wpE (defs₀ (F := F)) 𝒱₀ (c : Thread nD τ) none) Set.univ (k (woM.view.readAt (Elt F) (Rect.unit (s := S256x512) ![0, 0] S256x512.size inb_S256x512_S256x512_0_0).toLoadRect f)) Q)
          -∗ wp frame (wpE (defs₀ (F := F)) 𝒱₀ (c : Thread nD τ) none) Set.univ (.op (.load woM (Rect.unit (s := S256x512) ![0, 0] S256x512.size inb_S256x512_S256x512_0_0).toLoadRect hl) k) Q) :=
    wp_load 𝒱₀ (c : Thread nD τ) none Set.univ (m := woM) (r := (Rect.unit (s := S256x512) ![0, 0] S256x512.size inb_S256x512_S256x512_0_0).toLoadRect) (Finset.subset_univ _)
  rw [e] at h
  exact h

/-- The four pieces of a filled halo buffer joined. -/
theorem k_join (c : Dev nD) (f : S3x2x4x128x64.Idx → Elt F .bf16) :
    iprop(kreg c 1 fullShare.left f ∗ kreg c 2 fullShare f ∗ kreg c 1 fullShare.right f ∗ kreg c 0 fullShare f) ⊢ (sp c cc0_scratch0 f : sProp 𝕄) := by
  iintro ⟨Hl, H2, Hr, H0⟩
  iapply (k_split c f).2
  isplitl [H0]; · iexact H0
  isplitl [Hl Hr]
  · iapply (k_halves c 1 f).2
    isplitl [Hl] <;> iassumption
  iexact H2

/-- The four pieces of a filled halo buffer joined. -/
theorem v_join (c : Dev nD) (f : S3x2x4x128x64.Idx → Elt F .bf16) :
    iprop(vreg c 1 fullShare.left f ∗ vreg c 2 fullShare f ∗ vreg c 1 fullShare.right f ∗ vreg c 0 fullShare f) ⊢ (sp c cc0_scratch1 f : sProp 𝕄) := by
  iintro ⟨Hl, H2, Hr, H0⟩
  iapply (v_split c f).2
  isplitl [H0]; · iexact H0
  isplitl [Hl Hr]
  · iapply (v_halves c 1 f).2
    isplitl [Hl] <;> iassumption
  iexact H2

set_option maxHeartbeats 1600000 in
/-- The two V transfers; `x` and `Wq` loaded. -/
theorem part7_run (c : Dev nD) (v2 v25 : BitVec 32) (f2 f3 : S3x2x4x128x64.Idx → Elt F .bf16) (x : Vec F S2x128x512 .bf16) (wq : Vec F S512x256 .bf16) (Q : _ → sProp 𝕄) :
    iprop(records m ρ K ∗ ow c (O₃ c) ∗ xtoks 2 c ∗ xtoks 3 c ∗ vreg c 1 fullShare.left (vfull m ρ c) ∗ vreg c 1 fullShare.right (vfull m ρ c) ∗ vreg (prv c) 2 fullShare f2 ∗ vreg (nxt c) 0 fullShare f3 ∗ sp c cc0_stg0_0 x ∗ sp c cc0_stg1_0 wq ∗ ((ow c 0 ∗ cred (tallyAt (sendCell 2 c) () N) ∗ cred (tallyAt (sendCell 3 c) () N) ∗ sp c cc0_stg0_0 x ∗ sp c cc0_stg1_0 wq) -∗ Q ⟨k0_pay20 x wq, iota .tc S128x384 32 [0] iota_S128x384_d0_w32, k0_pay21 v2⟩))
      ⊢ wp frame (wpE (defs₀ (F := F)) 𝒱₀ (c : Thread nD τ) none) Set.univ (k0_part7 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 c v2 v25) Q := by
  rw [k0_part7_eq_skeleton]; unfold k0_part7_skel
  simp only [semSignalWord, semWaitWord, Prog.lift, Prog.bind_op, Prog.bind_ret, Prog.pure_eq_ret, wp_deviceId]
  iintro ⟨#HR, HO, Ht2, Ht3, Hs2, Hs3, Hd2, Hd3, Hx, Hw, Hk⟩
  iapply (wp_xfer2 m ρ K c _ _ _ (dev5_eq c) s2_eq2 s3_eq2 f2) $$ [HO Ht2 Hs2 Hd2]
  · isplitr; · iexact HR
    isplitl [HO]; · iexact HO
    isplitl [Ht2]; · iexact Ht2
    isplitl [Hs2]; · iexact Hs2
    iexact Hd2
  iintro ⟨HO, Hc2⟩
  iapply (wp_xfer3 m ρ K c _ _ _ (dev6_eq c) s2_eq3 s3_eq3 f3) $$ [HO Ht3 Hs3 Hd3]
  · isplitr; · iexact HR
    isplitl [HO]; · iexact HO
    isplitl [Ht3]; · iexact Ht3
    isplitl [Hs3]; · iexact Hs3
    iexact Hd3
  iintro ⟨HO, Hc3⟩
  iapply (wp_load_xM c x) $$ Hx; iintro Hx
  iapply (wp_load_wqM c wq) $$ Hw; iintro Hw
  rw [wp_ret]; imodintro
  iapply Hk
  isplitl [HO]; · iexact HO
  isplitl [Hc2]; · iexact Hc2
  isplitl [Hc3]; · iexact Hc3
  isplitl [Hx]; · iexact Hx
  iexact Hw

set_option maxHeartbeats 1600000 in
/-- `Wo` loaded; the wait for the first send. -/
theorem part8_run (c : Dev nD) (v2 v14 : BitVec 32) (v161 v162 : IVec S128x384 32) (wo : Vec F S256x512 .bf16) (Q : _ → sProp 𝕄) :
    iprop(records m ρ K ∗ ow c 0 ∗ cred (tallyAt (sendCell 0 c) () N) ∗ atPos ER (sendCell 0 c) 0 ∅ 0 ∗ sp c cc0_stg4_0 wo ∗ ((ow c 0 ∗ semVal (sendCell 0 c) 0 ∗ xferPay m ρ c (sS 0) ∗ sp c cc0_stg4_0 wo) -∗ Q ⟨k0_pay22 v2 v161 v162, k0_pay23 wo⟩))
      ⊢ wp frame (wpE (defs₀ (F := F)) 𝒱₀ (c : Thread nD τ) none) Set.univ (k0_part8 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v2 v14 v161 v162) Q := by
  rw [k0_part8_eq_skeleton]; unfold k0_part8_skel
  simp only [semSignalWord, semWaitWord, Prog.lift, Prog.bind_op, Prog.bind_ret, Prog.pure_eq_ret, wp_deviceId]
  iintro ⟨#HR, HO, HcS0, HaS0, Hw, Hk⟩
  iapply (wp_load_woM c wo) $$ Hw; iintro Hw
  iapply (wp_xwait m ρ K c (sS 0) _ s2_eq0 _ (inv_S m ρ K 0 c) (kslot_credit 1 h1)) $$ [HO HcS0 HaS0]
  · isplitr; · iexact HR
    isplitl [HO]; · iexact HO
    isplitl [HcS0]; · iexact HcS0
    iexact HaS0
  iintro ⟨HO, HzS0, HpS0⟩
  rw [wp_ret]; imodintro
  iapply Hk
  isplitl [HO]; · iexact HO
  isplitl [HzS0]; · iexact HzS0
  isplitl [HpS0]; · iexact HpS0
  iexact Hw

set_option maxHeartbeats 1600000 in
/-- The K halo arrives. -/
theorem part9_run (c : Dev nD) (v25 : BitVec 32) (v159 : FVec F S256x256 .bf16) (Q : _ → sProp 𝕄) :
    iprop(records m ρ K ∗ ow c 0 ∗ xferPay m ρ c (sS 0) ∗ cred (tallyAt (recvCell 0 c) () N) ∗ atPos ER (recvCell 0 c) 0 ∅ 0 ∗ cred (tallyAt (sendCell 1 c) () N) ∗ atPos ER (sendCell 1 c) 0 ∅ 0 ∗ cred (tallyAt (recvCell 1 c) () N) ∗ atPos ER (recvCell 1 c) 0 ∅ 0 ∗ ((ow c 0 ∗ semVal (recvCell 0 c) 0 ∗ semVal (sendCell 1 c) 0 ∗ semVal (recvCell 1 c) 0 ∗ sp c cc0_scratch0 (kfull m ρ c)) -∗ Q ⟨k0_pay24 v159, k0_pay25 (h3 (kfull m ρ c) 0 0)⟩))
      ⊢ wp frame (wpE (defs₀ (F := F)) 𝒱₀ (c : Thread nD τ) none) Set.univ (k0_part9 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v25 v159) Q := by
  rw [k0_part9_eq_skeleton]; unfold k0_part9_skel
  simp only [semSignalWord, semWaitWord, Prog.lift, Prog.bind_op, Prog.bind_ret, Prog.pure_eq_ret, wp_deviceId]
  iintro ⟨#HR, HO, HpS0, HcR0, HaR0, HcS1, HaS1, HcR1, HaR1, Hk⟩
  iapply (wp_xwait m ρ K c (sR 0) _ s3_eq0 _ (inv_R m ρ K 0 c) (kslot_credit 2 h2)) $$ [HO HcR0 HaR0]
  · isplitr; · iexact HR
    isplitl [HO]; · iexact HO
    isplitl [HcR0]; · iexact HcR0
    iexact HaR0
  iintro ⟨HO, HzR0, HpR0⟩
  iapply (wp_xwait m ρ K c (sS 1) _ s2_eq1 _ (inv_S m ρ K 1 c) (kslot_credit 1 h1)) $$ [HO HcS1 HaS1]
  · isplitr; · iexact HR
    isplitl [HO]; · iexact HO
    isplitl [HcS1]; · iexact HcS1
    iexact HaS1
  iintro ⟨HO, HzS1, HpS1⟩
  iapply (wp_xwait m ρ K c (sR 1) _ s3_eq1 _ (inv_R m ρ K 1 c) (kslot_credit 0 h0)) $$ [HO HcR1 HaR1]
  · isplitr; · iexact HR
    isplitl [HO]; · iexact HO
    isplitl [HcR1]; · iexact HcR1
    iexact HaR1
  iintro ⟨HO, HzR1, HpR1⟩
  ihave HpS0 := (Entails.of_eq (pay_S0 m ρ c)) $$ HpS0
  ihave HpR0 := (Entails.of_eq (pay_R0 m ρ c)) $$ HpR0
  ihave HpS1 := (Entails.of_eq (pay_S1 m ρ c)) $$ HpS1
  ihave HpR1 := (Entails.of_eq (pay_R1 m ρ c)) $$ HpR1
  ihave Hb := (k_join c (kfull m ρ c)) $$ [HpS0 HpR0 HpS1 HpR1]
  · isplitl [HpS0]; · iexact HpS0
    isplitl [HpR0]; · iexact HpR0
    isplitl [HpS1]; · iexact HpS1
    iexact HpR1
  iapply (wp_load3K c 0 0 (by decide) (by decide) _) $$ Hb; iintro Hb
  rw [wp_ret]; imodintro
  iapply Hk
  isplitl [HO]; · iexact HO
  isplitl [HzR0]; · iexact HzR0
  isplitl [HzS1]; · iexact HzS1
  isplitl [HzR1]; · iexact HzR1
  iexact Hb

set_option maxHeartbeats 1600000 in
/-- K heads loaded. -/
theorem part10_run (c : Dev nD) (f : S3x2x4x128x64.Idx → Elt F .bf16) (v159 : FVec F S256x256 .bf16) (v178 : IVec S128x384 1) (v209 : FVec F S128x64 .bf16) (v212 : FVec F S384x64 .bf16) (Q : _ → sProp 𝕄) :
    iprop(sp c cc0_scratch0 f ∗ (sp c cc0_scratch0 f -∗ Q ⟨k0_pay27 v178 v209 v212, k0_pay28 v178 v209 v212, k0_pay30 v159 v178 (h3 f 0 1), k0_pay31 v159 v178 (h3 f 0 1), k0_pay33 v159 v178 (h3 f 0 2), k0_pay34 v159 v178 (h3 f 0 2), k0_pay35 v159 (h3 f 0 3), Named.named κ "mask" 0xCE6E6B28#32⟩))
      ⊢ wp frame (wpE (defs₀ (F := F)) 𝒱₀ (c : Thread nD τ) none) Set.univ (k0_part10 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v159 v178 v209 v212) Q := by
  rw [k0_part10_eq_skeleton]; unfold k0_part10_skel
  simp only [semSignalWord, semWaitWord, Prog.lift, Prog.bind_op, Prog.bind_ret, Prog.pure_eq_ret, wp_deviceId]
  iintro ⟨Hb, Hk⟩
  iapply (wp_load3K c 0 1 (by decide) (by decide) f) $$ Hb; iintro Hb
  iapply (wp_load3K c 0 2 (by decide) (by decide) f) $$ Hb; iintro Hb
  iapply (wp_load3K c 0 3 (by decide) (by decide) f) $$ Hb; iintro Hb
  rw [wp_ret]; imodintro
  iapply Hk
  iexact Hb

set_option maxHeartbeats 1600000 in
/-- K heads loaded. -/
theorem part11_run (c : Dev nD) (f : S3x2x4x128x64.Idx → Elt F .bf16) (v159 : FVec F S256x256 .bf16) (v178 : IVec S128x384 1) (v246 : FVec F S128x384 .f32) (cst : F .f32) (Q : _ → sProp 𝕄) :
    iprop(sp c cc0_scratch0 f ∗ (sp c cc0_scratch0 f -∗ Q ⟨k0_pay37 v178 v246 cst, k0_pay38 v178 v246 cst, k0_pay40 v159 v178 (h3 f 1 0), k0_pay41 v159 v178 (h3 f 1 0), k0_pay43 v159 v178 (h3 f 1 1), k0_pay44 v159 v178 (h3 f 1 1), k0_pay45 v159 v178 (h3 f 1 2)⟩))
      ⊢ wp frame (wpE (defs₀ (F := F)) 𝒱₀ (c : Thread nD τ) none) Set.univ (k0_part11 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v159 v178 v246 cst) Q := by
  rw [k0_part11_eq_skeleton]; unfold k0_part11_skel
  simp only [semSignalWord, semWaitWord, Prog.lift, Prog.bind_op, Prog.bind_ret, Prog.pure_eq_ret, wp_deviceId]
  iintro ⟨Hb, Hk⟩
  iapply (wp_load3K c 1 0 (by decide) (by decide) f) $$ Hb; iintro Hb
  iapply (wp_load3K c 1 1 (by decide) (by decide) f) $$ Hb; iintro Hb
  iapply (wp_load3K c 1 2 (by decide) (by decide) f) $$ Hb; iintro Hb
  rw [wp_ret]; imodintro
  iapply Hk
  iexact Hb

set_option maxHeartbeats 1600000 in
/-- The last K head loaded; the wait for the third send. -/
theorem part12_run (c : Dev nD) (f : S3x2x4x128x64.Idx → Elt F .bf16) (v14 : BitVec 32) (v159 : FVec F S256x256 .bf16) (v178 : IVec S128x384 1) (v282 : FVec F S128x384 .f32) (Q : _ → sProp 𝕄) :
    iprop(records m ρ K ∗ ow c 0 ∗ cred (tallyAt (sendCell 2 c) () N) ∗ atPos ER (sendCell 2 c) 0 ∅ 0 ∗ sp c cc0_scratch0 f ∗ ((ow c 0 ∗ semVal (sendCell 2 c) 0 ∗ xferPay m ρ c (sS 2) ∗ sp c cc0_scratch0 f) -∗ Q ⟨k0_pay46 v282, k0_pay47 v282, k0_pay49 v159 v178 (h3 f 1 3), k0_pay50 v159 v178 (h3 f 1 3)⟩))
      ⊢ wp frame (wpE (defs₀ (F := F)) 𝒱₀ (c : Thread nD τ) none) Set.univ (k0_part12 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v14 v159 v178 v282) Q := by
  rw [k0_part12_eq_skeleton]; unfold k0_part12_skel
  simp only [semSignalWord, semWaitWord, Prog.lift, Prog.bind_op, Prog.bind_ret, Prog.pure_eq_ret, wp_deviceId]
  iintro ⟨#HR, HO, HcS2, HaS2, Hb, Hk⟩
  iapply (wp_load3K c 1 3 (by decide) (by decide) f) $$ Hb; iintro Hb
  iapply (wp_xwait m ρ K c (sS 2) _ s2_eq2 _ (inv_S m ρ K 2 c) (vslot_credit 1 h1)) $$ [HO HcS2 HaS2]
  · isplitr; · iexact HR
    isplitl [HO]; · iexact HO
    isplitl [HcS2]; · iexact HcS2
    iexact HaS2
  iintro ⟨HO, HzS2, HpS2⟩
  rw [wp_ret]; imodintro
  iapply Hk
  isplitl [HO]; · iexact HO
  isplitl [HzS2]; · iexact HzS2
  isplitl [HpS2]; · iexact HpS2
  iexact Hb

set_option maxHeartbeats 1600000 in
/-- The V halo arrives. -/
theorem part13_run (c : Dev nD) (v25 : BitVec 32) (v217 : FVec F S128x384 .bf16) (v219 : FVec F S128x1 .f32) (Q : _ → sProp 𝕄) :
    iprop(records m ρ K ∗ ow c 0 ∗ xferPay m ρ c (sS 2) ∗ cred (tallyAt (recvCell 2 c) () N) ∗ atPos ER (recvCell 2 c) 0 ∅ 0 ∗ cred (tallyAt (sendCell 3 c) () N) ∗ atPos ER (sendCell 3 c) 0 ∅ 0 ∗ cred (tallyAt (recvCell 3 c) () N) ∗ atPos ER (recvCell 3 c) 0 ∅ 0 ∗ ((ow c 0 ∗ semVal (recvCell 2 c) 0 ∗ semVal (sendCell 3 c) 0 ∗ semVal (recvCell 3 c) 0 ∗ sp c cc0_scratch1 (vfull m ρ c)) -∗ Q ⟨k0_pay51 v217 (h3 (vfull m ρ c) 0 0), k0_pay52 v219⟩))
      ⊢ wp frame (wpE (defs₀ (F := F)) 𝒱₀ (c : Thread nD τ) none) Set.univ (k0_part13 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v25 v217 v219) Q := by
  rw [k0_part13_eq_skeleton]; unfold k0_part13_skel
  simp only [semSignalWord, semWaitWord, Prog.lift, Prog.bind_op, Prog.bind_ret, Prog.pure_eq_ret, wp_deviceId]
  iintro ⟨#HR, HO, HpS2, HcR2, HaR2, HcS3, HaS3, HcR3, HaR3, Hk⟩
  iapply (wp_xwait m ρ K c (sR 2) _ s3_eq2 _ (inv_R m ρ K 2 c) (vslot_credit 2 h2)) $$ [HO HcR2 HaR2]
  · isplitr; · iexact HR
    isplitl [HO]; · iexact HO
    isplitl [HcR2]; · iexact HcR2
    iexact HaR2
  iintro ⟨HO, HzR2, HpR2⟩
  iapply (wp_xwait m ρ K c (sS 3) _ s2_eq3 _ (inv_S m ρ K 3 c) (vslot_credit 1 h1)) $$ [HO HcS3 HaS3]
  · isplitr; · iexact HR
    isplitl [HO]; · iexact HO
    isplitl [HcS3]; · iexact HcS3
    iexact HaS3
  iintro ⟨HO, HzS3, HpS3⟩
  iapply (wp_xwait m ρ K c (sR 3) _ s3_eq3 _ (inv_R m ρ K 3 c) (vslot_credit 0 h0)) $$ [HO HcR3 HaR3]
  · isplitr; · iexact HR
    isplitl [HO]; · iexact HO
    isplitl [HcR3]; · iexact HcR3
    iexact HaR3
  iintro ⟨HO, HzR3, HpR3⟩
  ihave HpS2 := (Entails.of_eq (pay_S2 m ρ c)) $$ HpS2
  ihave HpR2 := (Entails.of_eq (pay_R2 m ρ c)) $$ HpR2
  ihave HpS3 := (Entails.of_eq (pay_S3 m ρ c)) $$ HpS3
  ihave HpR3 := (Entails.of_eq (pay_R3 m ρ c)) $$ HpR3
  ihave Hb := (v_join c (vfull m ρ c)) $$ [HpS2 HpR2 HpS3 HpR3]
  · isplitl [HpS2]; · iexact HpS2
    isplitl [HpR2]; · iexact HpR2
    isplitl [HpS3]; · iexact HpS3
    iexact HpR3
  iapply (wp_load3V c 0 0 (by decide) (by decide) _) $$ Hb; iintro Hb
  rw [wp_ret]; imodintro
  iapply Hk
  isplitl [HO]; · iexact HO
  isplitl [HzR2]; · iexact HzR2
  isplitl [HzS3]; · iexact HzS3
  isplitl [HzR3]; · iexact HzR3
  iexact Hb

set_option maxHeartbeats 1600000 in
/-- V heads loaded. -/
theorem part14_run (c : Dev nD) (f : S3x2x4x128x64.Idx → Elt F .bf16) (v228 v239 v250 v261 v272 : FVec F S128x384 .bf16) (v230 v241 v252 v263 : FVec F S128x1 .f32) (v328 v329 : FVec F S128x64 .f32) (Q : _ → sProp 𝕄) :
    iprop(sp c cc0_scratch1 f ∗ (sp c cc0_scratch1 f -∗ Q ⟨k0_pay53 v228 v230 v239 v241 v250 v252 v328 v329 (h3 f 0 1) (h3 f 0 2) (h3 f 0 3), k0_pay54 v261 v263 (h3 f 1 0), k0_pay55 v272 (h3 f 1 1)⟩))
      ⊢ wp frame (wpE (defs₀ (F := F)) 𝒱₀ (c : Thread nD τ) none) Set.univ (k0_part14 (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3 v228 v230 v239 v241 v250 v252 v261 v263 v272 v328 v329) Q := by
  rw [k0_part14_eq_skeleton]; unfold k0_part14_skel
  simp only [semSignalWord, semWaitWord, Prog.lift, Prog.bind_op, Prog.bind_ret, Prog.pure_eq_ret, wp_deviceId]
  iintro ⟨Hb, Hk⟩
  iapply (wp_load3V c 0 1 (by decide) (by decide) f) $$ Hb; iintro Hb
  iapply (wp_load3V c 0 2 (by decide) (by decide) f) $$ Hb; iintro Hb
  iapply (wp_load3V c 0 3 (by decide) (by decide) f) $$ Hb; iintro Hb
  iapply (wp_load3V c 1 0 (by decide) (by decide) f) $$ Hb; iintro Hb
  iapply (wp_load3V c 1 1 (by decide) (by decide) f) $$ Hb; iintro Hb
  rw [wp_ret]; imodintro
  iapply Hk
  iexact Hb

end Cert.Halo

end
-- ==== Proof.Body.lean ====
/-
# The body's run, whole

The parts strung together: from what the launch deals a device to its output staging buffer written and every counter
of its nine cells at zero.
-/
module

public import proofs.«01_k».proof.Proof.Body2
public import proofs.«01_k».proof.Proof.Gen.KernelIdeal.Launch

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What the body stores, of its projected queries `v159`, its mask `v178`, the output weights `v180` and the two filled
    halo buffers. -/
def attOut (v159 : FVec F S256x256 .bf16) (v178 : IVec S128x384 1) (v180 : FVec F S256x512 .bf16)
    (kf vf : S3x2x4x128x64.Idx → Elt F .bf16) : FVec F S2x128x512 .f32 :=
  k0_pay1 v180 (k0_pay44 v159 v178 (h3 kf 1 1)) (k0_pay46 (k0_pay45 v159 v178 (h3 kf 1 2))) (k0_pay47 (k0_pay45 v159 v178 (h3 kf 1 2))) (k0_pay49 v159 v178 (h3 kf 1 3)) (k0_pay50 v159 v178 (h3 kf 1 3)) (k0_pay53 (k0_pay30 v159 v178 (h3 kf 0 1)) (k0_pay31 v159 v178 (h3 kf 0 1)) (k0_pay33 v159 v178 (h3 kf 0 2)) (k0_pay34 v159 v178 (h3 kf 0 2)) (k0_pay37 v178 (k0_pay35 v159 (h3 kf 0 3)) (Named.named κ "mask" 0xCE6E6B28#32 : F .f32)) (k0_pay38 v178 (k0_pay35 v159 (h3 kf 0 3)) (Named.named κ "mask" 0xCE6E6B28#32 : F .f32)) (k0_pay51 (k0_pay27 v178 (k0_pay24 v159) (k0_pay25 (h3 kf 0 0))) (h3 vf 0 0)) (k0_pay52 (k0_pay28 v178 (k0_pay24 v159) (k0_pay25 (h3 kf 0 0)))) (h3 vf 0 1) (h3 vf 0 2) (h3 vf 0 3)) (k0_pay54 (k0_pay40 v159 v178 (h3 kf 1 0)) (k0_pay41 v159 v178 (h3 kf 1 0)) (h3 vf 1 0)) (k0_pay55 (k0_pay43 v159 v178 (h3 kf 1 1)) (h3 vf 1 1)) (h3 vf 1 2) (h3 vf 1 3)

/-- The mask of device `c`'s queries against its 384 halo keys. -/
def maskOf (w : BitVec 32) : IVec S128x384 1 := k0_pay22 w (iota .tc S128x384 32 [0] iota_S128x384_d0_w32) (k0_pay21 w)

/-- Device `c`'s output block. -/
def outAt (c : Dev nD) : FVec F S2x128x512 .f32 :=
  attOut (k0_pay20 (xstg m ρ c) (wqstg m ρ c)) (maskOf (my c)) (k0_pay23 (wostg m ρ c)) (kfull m ρ c) (vfull m ρ c)

/-! ## The windows' contents around the point -/

/-- Each window's array at launch, what the point leaves in its staging buffer, the state before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ i := match i with
    | ⟨0, _⟩ => Φ₀ m ρ c
    | ⟨_ + 1, _⟩ => Φ₁ c
  q _ := fullShare
  owed i := match i with
    | ⟨0, _⟩ => O₀ c
    | ⟨_ + 1, _⟩ => 0

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xstg m ρ c) ∗ stg c cc0_stg1_0 (wqstg m ρ c)
    ∗ stg c cc0_stg2_0 (kstg m ρ c) ∗ stg c cc0_stg3_0 (vstg m ρ c) ∗ stg c cc0_stg4_0 (wostg m ρ c) ∗ stg c cc0_stg5_0 (outAt m ρ c))

/-- The store of the whole output buffer leaves the value stored. -/
theorem write_out (f w : Vec F S2x128x512 .f32) :
    ((outM.access (Rect.unit (s := S2x128x512) ![0, 0, 0] S2x128x512.size inb_S2x128x512_S2x128x512_0_0_0)).write (Elt F) f w Finset.univ
      : Vec F S2x128x512 .f32) = w :=
  Memref.write_access_unit_zero_univ (Elt F) cc0_stg5_0 hz3 _ f w

set_option maxHeartbeats 1600000 in
set_option maxRecDepth 8000 in
/-- The body, from `bodyPre` to `bodyPost`, its printed parts run in order. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (cc0_body (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3) Kt := by
  simp only [cc0_body_eq_skeleton]; unfold cc0_body_skel bodyPre Φ₀ start ghost poss payToks creds'
  iintro ⟨⟨⟨⟨⟨%K, #HR, ⟨HaB, HaS0, HaS1, HaS2, HaS3, HaR0, HaR1, HaR2, HaR3⟩, HtP, HtN, Ht0, Ht1, Ht2, Ht3⟩, ⟨HcB, HcR0, HcR1, HcR2, HcR3⟩, #Hlev⟩,
    ⟨%fk, Hsk⟩, ⟨%fv, Hsv⟩⟩, Ho, ⟨%d0, %g0, %hg0, Hx⟩, ⟨%d1, %g1, %hg1, Hwq⟩, ⟨%d2, %g2, %hg2, Hk⟩, ⟨%d3, %g3, %hg3, Hv⟩, ⟨%d4, %g4, %hg4, Hwo⟩,
    ⟨%d5, %g5, %hg5, Hout⟩⟩, Hpost⟩
  have hx0 : g0 = xstg m ρ c := by rw [hg0]; unfold Dat.before; rw [if_pos (fetch0_0 t₀)]; rfl
  subst hx0
  have hx1 : g1 = wqstg m ρ c := by rw [hg1]; unfold Dat.before; rw [if_pos (fetch0_1 t₀)]; rfl
  subst hx1
  have hx2 : g2 = kstg m ρ c := by rw [hg2]; unfold Dat.before; rw [if_pos (fetch0_2 t₀)]; rfl
  subst hx2
  have hx3 : g3 = vstg m ρ c := by rw [hg3]; unfold Dat.before; rw [if_pos (fetch0_3 t₀)]; rfl
  subst hx3
  have hx4 : g4 = wostg m ρ c := by rw [hg4]; unfold Dat.before; rw [if_pos (fetch0_4 t₀)]; rfl
  subst hx4
  unfold Dat.owesAt Pipeline.owesWithin
  icases Ho with ⟨%W, %hW, HO⟩
  rw [show (dats m ρ 0 c).owed t₀.castSucc = O₀ c from rfl]
  ihave HO := (show (owes (c : Thread nD τ) (O₀ c) W : sProp 𝕄) ⊢ ow c (O₀ c) from by unfold ow; iintro H; iexists W; iexact H) $$ HO
  ihave Hsk := (k_split c fk).1 $$ Hsk
  icases Hsk with ⟨Hk0, Hk1, Hk2⟩
  ihave Hsv := (v_split c fv).1 $$ Hsv
  icases Hsv with ⟨Hv0, Hv1, Hv2⟩
  ihave HpP := (show iprop(kreg c 0 fullShare fk ∗ vreg c 0 fullShare fv) ⊢ (barPay (prv c) true : sProp 𝕄) from by
    unfold barPay; dsimp only; rw [nxt_prv]; iintro ⟨H1, H2⟩
    isplitl [H1]; · iexists fk; iexact H1
    iexists fv; iexact H2) $$ [Hk0 Hv0]
  · isplitl [Hk0] <;> iassumption
  ihave HpN := (show iprop(kreg c 2 fullShare fk ∗ vreg c 2 fullShare fv) ⊢ (barPay (nxt c) false : sProp 𝕄) from by
    unfold barPay; dsimp only; rw [prv_nxt]; iintro ⟨H1, H2⟩
    isplitl [H1]; · iexists fk; iexact H1
    iexists fv; iexact H2) $$ [Hk2 Hv2]
  · isplitl [Hk2] <;> iassumption
  rw [wp_bind]
  iapply (part1_run m ρ K c _)
  isplitr; · iexact HR
  isplitl [HO]; · iexact HO
  isplitl [HtP]; · iexact HtP
  isplitl [HtN]; · iexact HtN
  isplitl [HpP]; · iexact HpP
  isplitl [HpN]; · iexact HpN
  iintro %v14 %v25 HO
  try dsimp only
  rw [wp_bind]
  iapply (part2_run c (kstg m ρ c) fk _)
  isplitl [Hk]; · iexact Hk
  isplitl [Hk1]; · iexact Hk1
  iintro ⟨Hk, Hk1⟩
  try dsimp only
  rw [wp_bind]
  iapply (part3_run m ρ K c (kstg m ρ c) (put0 (kstg m ρ c) fk) _)
  isplitr; · iexact HR
  isplitr; · iexact Hlev
  isplitl [HO]; · iexact HO
  isplitl [HcB]; · iexact HcB
  isplitl [HaB]; · iexact HaB
  isplitl [Hk]; · iexact Hk
  isplitl [Hk1]; · iexact Hk1
  iintro ⟨HO, HzB, HpF, HpT, Hk, Hk1⟩
  try dsimp only
  unfold barPay
  icases HpF with ⟨⟨%f0, Hd0⟩, ⟨%f2, Hd2⟩⟩
  icases HpT with ⟨⟨%f1, Hd1⟩, ⟨%f3, Hd3⟩⟩
  ihave Hk1 := (Entails.of_eq (show kreg c 1 fullShare (put1 (kstg m ρ c) (put0 (kstg m ρ c) fk)) = kreg c 1 fullShare (kfull m ρ c) from by rw [put1_put0]; exact k_stored m ρ c fullShare fk)) $$ Hk1
  ihave Hk1 := (k_halves c 1 (kfull m ρ c)).1 $$ Hk1
  icases Hk1 with ⟨HkL, HkR⟩
  rw [wp_bind]
  iapply (part4_run m ρ K c v14 v25 (vstg m ρ c) f0 f1 _)
  isplitr; · iexact HR
  isplitl [HO]; · iexact HO
  isplitl [Ht0]; · iexact Ht0
  isplitl [Ht1]; · iexact Ht1
  isplitl [HkL]; · iexact HkL
  isplitl [HkR]; · iexact HkR
  isplitl [Hd0]; · iexact Hd0
  isplitl [Hd1]; · iexact Hd1
  isplitl [Hv]; · iexact Hv
  iintro ⟨HO, HcS0, HcS1, Hv⟩
  try dsimp only
  rw [wp_bind]
  iapply (part5_run c (vstg m ρ c) fv _)
  isplitl [Hv]; · iexact Hv
  isplitl [Hv1]; · iexact Hv1
  iintro ⟨Hv, Hv1⟩
  try dsimp only
  rw [wp_bind]
  iapply (part6_run c v14 (vstg m ρ c) (put0 (vstg m ρ c) fv) _)
  isplitl [Hv]; · iexact Hv
  isplitl [Hv1]; · iexact Hv1
  iintro ⟨Hv, Hv1⟩
  try dsimp only
  ihave Hv1 := (Entails.of_eq (show vreg c 1 fullShare (put1 (vstg m ρ c) (put0 (vstg m ρ c) fv)) = vreg c 1 fullShare (vfull m ρ c) from by rw [put1_put0]; exact v_stored m ρ c fullShare fv)) $$ Hv1
  ihave Hv1 := (v_halves c 1 (vfull m ρ c)).1 $$ Hv1
  icases Hv1 with ⟨HvL, HvR⟩
  rw [wp_bind]
  iapply (part7_run m ρ K c (my c) v25 f2 f3 (xstg m ρ c) (wqstg m ρ c) _)
  isplitr; · iexact HR
  isplitl [HO]; · iexact HO
  isplitl [Ht2]; · iexact Ht2
  isplitl [Ht3]; · iexact Ht3
  isplitl [HvL]; · iexact HvL
  isplitl [HvR]; · iexact HvR
  isplitl [Hd2]; · iexact Hd2
  isplitl [Hd3]; · iexact Hd3
  isplitl [Hx]; · iexact Hx
  isplitl [Hwq]; · iexact Hwq
  iintro ⟨HO, HcS2, HcS3, Hx, Hwq⟩
  try dsimp only
  rw [wp_bind]
  iapply (part8_run m ρ K c (my c) v14 _ _ (wostg m ρ c) _)
  isplitr; · iexact HR
  isplitl [HO]; · iexact HO
  isplitl [HcS0]; · iexact HcS0
  isplitl [HaS0]; · iexact HaS0
  isplitl [Hwo]; · iexact Hwo
  iintro ⟨HO, HzS0, HpS0, Hwo⟩
  try dsimp only
  rw [wp_bind]
  iapply (part9_run m ρ K c v25 _ _)
  isplitr; · iexact HR
  isplitl [HO]; · iexact HO
  isplitl [HpS0]; · iexact HpS0
  isplitl [HcR0]; · iexact HcR0
  isplitl [HaR0]; · iexact HaR0
  isplitl [HcS1]; · iexact HcS1
  isplitl [HaS1]; · iexact HaS1
  isplitl [HcR1]; · iexact HcR1
  isplitl [HaR1]; · iexact HaR1
  iintro ⟨HO, HzR0, HzS1, HzR1, Hbk⟩
  try dsimp only
  rw [wp_bind]
  iapply (part10_run c (kfull m ρ c) _ _ _ _ _)
  isplitl [Hbk]; · iexact Hbk
  iintro Hbk
  try dsimp only
  rw [wp_bind]
  iapply (part11_run c (kfull m ρ c) _ _ _ _ _)
  isplitl [Hbk]; · iexact Hbk
  iintro Hbk
  try dsimp only
  rw [wp_bind]
  iapply (part12_run m ρ K c (kfull m ρ c) v14 _ _ _ _)
  isplitr; · iexact HR
  isplitl [HO]; · iexact HO
  isplitl [HcS2]; · iexact HcS2
  isplitl [HaS2]; · iexact HaS2
  isplitl [Hbk]; · iexact Hbk
  iintro ⟨HO, HzS2, HpS2, Hbk⟩
  try dsimp only
  rw [wp_bind]
  iapply (part13_run m ρ K c v25 _ _ _)
  isplitr; · iexact HR
  isplitl [HO]; · iexact HO
  isplitl [HpS2]; · iexact HpS2
  isplitl [HcR2]; · iexact HcR2
  isplitl [HaR2]; · iexact HaR2
  isplitl [HcS3]; · iexact HcS3
  isplitl [HaS3]; · iexact HaS3
  isplitl [HcR3]; · iexact HcR3
  isplitl [HaR3]; · iexact HaR3
  iintro ⟨HO, HzR2, HzS3, HzR3, Hbv⟩
  try dsimp only
  rw [wp_bind]
  iapply (part14_run c (vfull m ρ c) _ _ _ _ _ _ _ _ _ _ _ _)
  isplitl [Hbv]; · iexact Hbv
  iintro Hbv
  try dsimp only
  simp only [Prog.lift, Prog.bind_op, Prog.bind_ret, Prog.pure_eq_ret]
  iapply (wp_load3V c 1 2 (by decide) (by decide) (vfull m ρ c)) $$ Hbv; iintro Hbv
  iapply (wp_load3V c 1 3 (by decide) (by decide) (vfull m ρ c)) $$ Hbv; iintro Hbv
  iapply (wp_load 𝒱₀ (c : Thread nD τ) none Set.univ (m := outM) (Finset.subset_univ _)) $$ Hout; iintro Hout
  iapply (wp_store 𝒱₀ (c : Thread nD τ) none Set.univ (m := outM) (r := Rect.unit (s := S2x128x512) ![0, 0, 0] S2x128x512.size inb_S2x128x512_S2x128x512_0_0_0)
    (Mk := Finset.univ) (Finset.subset_univ _)) $$ Hout; iintro Hout
  rw [write_out, wp_ret]; imodintro
  iapply Hpost
  unfold bodyPost Φ₁ Dat.owesAt Pipeline.owesWithin
  rw [show (dats m ρ 0 c).owed t₀.succ = 0 from rfl]
  isplitl [Hbk Hbv HzB HzS0 HzS1 HzS2 HzS3 HzR0 HzR1 HzR2 HzR3]
  · isplitl [Hbk]; · iexists _; iexact Hbk
    isplitl [Hbv]; · iexists _; iexact Hbv
    isplitl [HzB]; · iexact HzB
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2] <;> iassumption
  isplitl [HO]
  · unfold ow
    icases HO with ⟨%W', HO⟩
    iexists W'
    isplitr; · ipureintro; exact fun _ _ => Or.inl trivial
    iexact HO
  isplitl [Hx]; · iexists _; isplitr; · (ipureintro; rfl)
                  iexact Hx
  isplitl [Hwq]; · iexists _; isplitr; · (ipureintro; rfl)
                   iexact Hwq
  isplitl [Hk]; · iexists _; isplitr; · (ipureintro; rfl)
                  iexact Hk
  isplitl [Hv]; · iexists _; isplitr; · (ipureintro; rfl)
                  iexact Hv
  isplitl [Hwo]; · iexists _; isplitr; · (ipureintro; rfl)
                   iexact Hwo
  iexists _; isplitr; · (ipureintro; rfl)
  iexact Hout

/-! ## The library's body obligation -/

omit [FloatOps F] [Named F] in
/-- Owning a whole staging buffer at given contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] [Named F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_stg]
  show bodyPre m ρ c ⊢ wp frame (wpE (defs₀ (F := F)) 𝒱₀ (c : Thread nD τ) none) Set.univ (cc0_body (F := F) xM (Memref.isWhole_whole _) wqM (Memref.isWhole_whole _) kinM (Memref.isWhole_whole _) vinM (Memref.isWhole_whole _) woM (Memref.isWhole_whole _) outM (Memref.isWhole_whole _) kM (Memref.isWhole_whole _) vM (Memref.isWhole_whole _) cc0_scratch2 cc0_scratch3) (fun _ => bodyPost m ρ c)
  iintro H
  iapply (sound_body m ρ c fun _ => bodyPost m ρ c)
  isplitl [H]; · iexact H
  iintro H; iexact H

end Cert.Halo

end
-- ==== Proof.Launch.lean ====
/-
# The launch

The nine cells of every device opened at once, their duty tokens dealt to the devices that pay them, the credits of what
the others owe it to each device; then the run of the whole program.
-/
module

public import proofs.«01_k».proof.Proof.Body
public import Idealize.ShloMosaic.Lib.Pipeline.Launch
public import Idealize.ShloMosaic.Lib.Pipeline.CollectiveSegs
public import Idealize.ShloMosaic.Lib.Tactic

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 9 → GSem nD τ sig) := fun a b h =>
  Prod.ext (congrArg (fun g : GSem nD τ sig => g.1.1) h) (csem_injective (congrArg Prod.snd h))

/-- Every device's nine cells. -/
def allCells : Finset (GSem nD τ sig) := Finset.univ.map ⟨kcell, kcell_injective⟩

/-- A device's ten duties: its barrier cell's two, one of each of its eight transfer cells. -/
abbrev duty : Fin 10 → Fin 9 × Bool := fun
  | 0 => (0, false) | 1 => (0, true) | 2 => (1, false) | 3 => (2, false) | 4 => (3, false) | 5 => (4, false)
  | 6 => (5, false) | 7 => (6, false) | 8 => (7, false) | 9 => (8, false)
theorem duty_injective : Function.Injective duty := by decide

/-- The token of duty `j` of device `c`. -/
abbrev tokOf (cj : Dev nD × Fin 10) : GSem nD τ sig × ℕ × Bool := (kcell (cj.1, (duty cj.2).1), 0, (duty cj.2).2)
theorem tokOf_injective : Function.Injective tokOf := fun a b h => by
  have h1 := kcell_injective (congrArg Prod.fst h)
  have h2 : (duty a.2).2 = (duty b.2).2 := congrArg (fun x : GSem nD τ sig × ℕ × Bool => x.2.2) h
  exact Prod.ext (congrArg (fun x : Dev nD × Fin 9 => x.1) h1) (duty_injective (Prod.ext (congrArg (fun x : Dev nD × Fin 9 => x.2) h1) h2))
def allToks : Finset (GSem nD τ sig × ℕ × Bool) := Finset.univ.map ⟨tokOf, tokOf_injective⟩

/-- The launch element: the pipeline's part, and the cells and tokens above. -/
def u₀ : UU := (initOf (Pipeline.cells cfgs cellOf_inj) (Pipeline.launchToks cfgs cellOf_inj), initOf allCells allToks)

/-- The tokens of device `c`'s own cells. -/
def toks (c : Dev nD) : sProp 𝕄 := bigSep Finset.univ fun j : Fin 10 => dutyTok ER (kcell (c, (duty j).1)) 0 (duty j).2

/-- What the launch element deals device `c`. -/
def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ toks c)

/-- What device `c` has once every cell is open. -/
def G' (c : Dev nD) : sProp 𝕄 := iprop(∃ K, ghost m ρ K c)

omit [FloatOps F] [Named F] in
theorem bigSep_f9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] [Named F] in
theorem bigSep_f10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_cells : BI.own (ER (initOf allCells allToks)) ⊢ (|==> bigSep Finset.univ (G m ρ) : sProp 𝕄) := by
  have onCells (Φ : GSem nD τ sig → sProp 𝕄) :
      bigSep allCells Φ = bigSep Finset.univ fun c : Dev nD => bigSep Finset.univ fun k : Fin 9 => Φ (kcell (c, k)) := by
    unfold allCells; rw [bigSep_map, bigSep_univ_prod]; rfl
  have onToks : bigSep allToks (fun x => (dutyTok ER x.1 x.2.1 x.2.2 : sProp 𝕄)) = bigSep Finset.univ fun c : Dev nD => toks c := by
    unfold allToks; rw [bigSep_map, bigSep_univ_prod]; rfl
  iintro Hu
  imod (Rounds.fund ER (rd m ρ) allCells allToks) $$ Hu with ⟨Hst, Hre, Hat, Htok⟩
  imodintro
  ihave Hst := (Entails.of_eq (onCells fun g => roundState ER (rd m ρ) g 0)) $$ Hst
  ihave Hat := (Entails.of_eq (onCells fun g => atPos ER g 0 ∅ 0)) $$ Hat
  ihave Hre := (Entails.of_eq (onCells fun g => reached ER g 0)) $$ Hre
  ihave Htok := (Entails.of_eq onToks) $$ Htok
  unfold G; simp only [bigSep_sep']
  isplitl [Hst]; · iexact Hst
  isplitl [Hat Hre]
  · isplitl [Hat] <;> iassumption
  iexact Htok

omit [FloatOps F] [Named F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) := by
  rw [Pipeline.ownSems0_eq_of_list c osem [0, 1, 2, 3, 4, 5, 6, 7] (by decide) (by decide)]; rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
/-- The nine counters of a device, at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_f9]
  iintro ⟨Hown, Hbar⟩
  isplitl [Hbar]; · iexact Hbar
  iexact Hown

/-- One device's cells opened. -/
theorem core_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  have hopen : iprop((bigSep Finset.univ fun k : Fin 9 => semVal (kcell (c, k)) 0) ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  iintro ⟨Hown, Hbar, Hst, Hat, Htok⟩
  ihave Hz := (sems0 (F := F) c) $$ [Hown Hbar]
  · isplitl [Hown] <;> iassumption
  imod hopen $$ [Hz Hst] with Hinv
  · isplitl [Hz] <;> iassumption
  imodintro
  isplitl [Hinv]; · iexact Hinv
  isplitl [Hat]; · iexact Hat
  iexact Htok

omit [FloatOps F] [Named F] in
/-- The tokens dealt to the devices that pay them: a barrier's two to the two neighbours, an arrival's to its sender. -/
theorem toks_dealt : (bigSep Finset.univ fun c : Dev nD => (toks c : sProp 𝕄)) ⊢ bigSep Finset.univ fun c : Dev nD => payToks c := by
  have e (c : Dev nD) : (toks c : sProp 𝕄) = iprop(dutyTok ER (barCell c) 0 false ∗ dutyTok ER (barCell c) 0 true
      ∗ dutyTok ER (sendCell 0 c) 0 false ∗ dutyTok ER (sendCell 1 c) 0 false ∗ dutyTok ER (sendCell 2 c) 0 false ∗ dutyTok ER (sendCell 3 c) 0 false
      ∗ dutyTok ER (recvCell 0 c) 0 false ∗ dutyTok ER (recvCell 1 c) 0 false ∗ dutyTok ER (recvCell 2 c) 0 false ∗ dutyTok ER (recvCell 3 c) 0 false) := by
    unfold toks; rw [bigSep_f10]
  rw [bigSep_congr (s := Finset.univ) fun c _ => e c]
  unfold payToks xtoks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv (ringT 0) (fun c : Dev nD => (dutyTok ER (recvCell 0 c) 0 false : sProp 𝕄)),
    bigSep_univ_equiv (ringT 1) (fun c : Dev nD => (dutyTok ER (recvCell 1 c) 0 false : sProp 𝕄)),
    bigSep_univ_equiv (ringT 2) (fun c : Dev nD => (dutyTok ER (recvCell 2 c) 0 false : sProp 𝕄)),
    bigSep_univ_equiv (ringT 3) (fun c : Dev nD => (dutyTok ER (recvCell 3 c) 0 false : sProp 𝕄))]
  iintro ⟨HF, HT, HS0, HS1, HS2, HS3, HR0, HR1, HR2, HR3⟩
  isplitl [HT]; · iexact HT
  isplitl [HF]; · iexact HF
  isplitl [HR0 HS0]
  · isplitl [HR0]; · iexact HR0
    iexact HS0
  isplitl [HR1 HS1]
  · isplitl [HR1]; · iexact HR1
    iexact HS1
  isplitl [HR2 HS2]
  · isplitl [HR2]; · iexact HR2
    iexact HS2
  isplitl [HR3]; · iexact HR3
  iexact HS3

/-- The cells' names chosen, the records shared, every device gets its start. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have one (K : Dev nD × Fin 9 → ℕ) (c : Dev nD) : iprop(records m ρ K ∗ poss c ∗ payToks c) ⊢ (G' m ρ c : sProp 𝕄) := by
    unfold G' ghost
    iintro H
    iexists K
    iexact H
  have give (K : Dev nD × Fin 9 → ℕ) :
      iprop(records m ρ K ∗ bigSep Finset.univ fun c : Dev nD => iprop(poss c ∗ payToks c)) ⊢ (bigSep Finset.univ (G' m ρ) : sProp 𝕄) := by
    refine (sep_mono_left (BI.bigSep_of_persistent (Finset.univ : Finset (Dev nD)) (records m ρ K))).trans ?_
    rw [← bigSep_sep']
    exact bigSep_mono fun c _ => one K c
  have hp (c : Dev nD) : (bigSep Finset.univ fun k : Fin 9 => (atPos ER (kcell (c, k)) 0 ∅ 0 : sProp 𝕄)) = poss c := by
    unfold poss; rw [bigSep_f9]
  rw [bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄)),
    bigSep_congr (s := Finset.univ) fun c _ => hp c]
  iintro ⟨HI, ⟨Hat, #HR⟩, Htok⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Hpay := (toks_dealt (F := F)) $$ Htok
  iapply (give K)
  rw [bigSep_sep']
  isplitr
  · unfold records
    isplitr; · iexact HI
    iexact HR
  isplitl [Hat]; · iexact Hat
  iexact Hpay

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_open m ρ c).trans (bigSep_fupd _ _)).trans (BI.fupd_mono (regroup m ρ))

/-! ## The launch credit -/

theorem cell_eq {q q' : SemLoc sig} {a b : Dev nD} (h : (((a : Thread nD τ), q) : GSem nD τ sig) = ((b : Thread nD τ), q')) : a = b ∧ q = q' :=
  ⟨congrArg (fun g : GSem nD τ sig => g.1.1) h, congrArg Prod.snd h⟩

theorem sR_injective : Function.Injective sR := by decide

/-- What a tally on one cell counts at another. -/
theorem tally_cell (q q' : SemLoc sig) (a b : Dev nD) (n : ℕ) :
    (tallyAt (((a : Thread nD τ), q) : GSem nD τ sig) () n : CellTallies nD τ sig Unit) ((b : Thread nD τ), q') ()
      = if a = b ∧ q = q' then n else 0 := by
  rw [tallyAt_apply]
  by_cases h : a = b ∧ q = q'
  · rw [if_pos h, if_pos ⟨by rw [h.1, h.2], rfl⟩]
  · rw [if_neg h, if_neg fun h' => h ⟨(cell_eq h'.1).1.symm, (cell_eq h'.1).2.symm⟩]

theorem owed_bar (d c : Dev nD) : O₀ d (barCell c) () = (if d = nxt c then 1 else 0) + (if d = prv c then 1 else 0) := by
  unfold O₀ Ob O₁ O₂ O₃ O₄ ow1
  simp only [Pi.add_apply, Finsupp.add_apply, tally_cell]
  revert d c; decide

theorem owed_recv (t : Fin 4) (d c : Dev nD) : O₀ d (recvCell t c) () = if d = from' t c then N else 0 := by
  unfold O₀ Ob O₁ O₂ O₃ O₄ ow1
  simp only [Pi.add_apply, Finsupp.add_apply, tally_cell]
  generalize N = n
  fin_cases t <;> fin_cases d <;> fin_cases c <;> simp [peer, from', nxt, prv, sR]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (t : Fin 4) (c : Dev nD) :
    tallyOn (recvCell t c) (launchCredit (Pipeline.owing O₀) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv t d c,
    Finset.sum_ite_eq' Finset.univ (from' t c) fun _ => N, if_pos (Finset.mem_univ _)]

/-- The five cells others pay into. -/
def paid : Finset (SemLoc sig) := {SemLoc.reg barS, SemLoc.dma (sR 0), SemLoc.dma (sR 1), SemLoc.dma (sR 2), SemLoc.dma (sR 3)}

omit [FloatOps F] [Named F] in
theorem creds (c : Dev nD) : (Pipeline.launchCred O₀ c : sProp 𝕄) ⊢ creds' c := by
  unfold Pipeline.launchCred creds'
  refine (BI.bigSep_subset (Finset.subset_univ paid)).trans ?_
  rw [bigSep_eq_bigSepL_of_eq [SemLoc.reg barS, SemLoc.dma (sR 0), SemLoc.dma (sR 1), SemLoc.dma (sR 2), SemLoc.dma (sR 3)] (by decide) (by decide)]
  rw [← launch_bar, ← launch_recv 0, ← launch_recv 1, ← launch_recv 2, ← launch_recv 3]
  exact BI.Entails.refl _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb⟩
  isplitl [Hs]; · iexact Hs
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hk, Hv, Hbar, Hown⟩
  isplitl [Hbar]; · iexact Hbar
  isplitl [Hown]; · iexact Hown
  isplitl [Hk] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 8000 in
/-- On the mesh of four devices, for any float values, from any memory with counters at zero: every weakly fair execution
    terminates without fault, each window's array at its final contents and every semaphore counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array is what it was. -/
theorem finalA_in (c : Dev nD) (w : Fin cfg0.W) (hw : (cfg0.win w).isOut = false) :
    finalA m ρ c w = (s₀ m ρ).mem ((cfg0.win w).arr.view.loc (c : Thread nD τ)) := (dats (F := F) m ρ 0 c).arrAt_in w hw _

end Cert.Halo

end
-- ==== Proof.Frames.lean ====
/-
# The frames

What the launch leaves behind, read off `run_main`: the result array at `outAt`, the arguments as they were, every
counter at zero. The original kernel is the idealized one at `Bits`, its mask constant at its own bits.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Adequacy

@[expose] public section

noncomputable section

namespace Cert.Halo

open Cert.KernelIdeal Cert.KernelIdeal.Gen

open Idealize.ShloMosaic
open Idealize.ShloMosaic.TcCoe
open Idealize.ShloMosaic.ValueIdx
open Idealize.SL Idealize.SL.RA Idealize.SL.BI
open Idealize.SL.Sem
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The side conditions of the precondition read on a device's blocks. -/
instance preFactsK : Cert.Pre_finite_inputs_KernelIdeal.Facts := ⟨by decide, by decide, by decide⟩

/-- The side conditions of the precondition read on the whole arrays. -/
instance preFactsR : Cert.Pre_finite_inputs_ReferenceIdeal.Facts := ⟨by decide, by decide, by decide⟩

/-- The result array ends holding the block that the body stored. -/
theorem finalA_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← h]
  exact (Memref.read_access_unit_zero (Elt F) main_v1 (funext fun a => by fin_cases a <;> decide)
    (fun a => by fin_cases a <;> decide) _).symm

/-- The run, read at the arrays: the result at `outAt`, the five arguments unchanged, every counter at zero. -/
theorem run_read : θ_run defs (onTc (τ := τ) (main (F := F))) ⟨m, fun _ => 0, ρ⟩ (fun r => (∀ c : Dev nD,
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run defs _ _).mono (fun _ h => ⟨fun c => ⟨(h.1 c (5 : Fin 6)).trans (finalA_out m ρ c),
      (h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, h.2⟩)
    (run_main m ρ)

/-- The idealized kernel's frame. -/
theorem frame_ki : Cert.quiescent_KernelIdeal := fun m ρ _ =>
  (θ_run Cert.KernelIdeal.defs _ _).mono (fun _ h => ⟨fun c => (h.1 c).2, h.2⟩) (run_read (F := Ideal) m ρ)

/-- The idealized kernel's frame from the memories the precondition admits. -/
theorem frame_ki_pre : Cert.quiescent_KernelIdeal_pre_finite_inputs_KernelIdeal := fun m ρ _ =>
  (θ_run Cert.KernelIdeal.defs _ _).mono (fun _ h => ⟨fun c => (h.1 c).2, h.2⟩) (run_read (F := Ideal) m ρ)

/-- At the bits a named constant is the constant itself. -/
local instance namedBits : Named Bits := ⟨fun _ _ {φ} w => Scalar.ofBits φ w⟩

/-- Over the bits the two programs' body tables are the same text. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl

/-- So are the tables with the pipelines' labels adjoined. -/
theorem defs_eq : Cert.Kernel.defs (F := Bits) = Cert.KernelIdeal.defs (F := Bits) := by
  unfold Cert.Kernel.defs Cert.KernelIdeal.defs
  exact congrArg (Pipeline.defs _) defs₀_eq

/-- The idealized kernel's frame over the bits, from any table equal to its own. -/
theorem frame_bits (m : (ℓ : Loc nD τ sig) → Buf (Elt Bits) ℓ) (ρ : Dev nD → PrngReg)
    (d : Defs nD τ sig (Elt Bits) (Pipeline.Sig Λ₀ (Fin 1) fun p => (pcfgs (F := Bits) p).Adm))
    (hd : d = Cert.KernelIdeal.defs (F := Bits)) :
    θ_run d (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) := by
  subst hd
  exact (θ_run Cert.KernelIdeal.defs _ _).mono (fun _ h => ⟨fun c => (h.1 c).2, h.2⟩) (run_read (F := Bits) m ρ)

/-- The kernel's frame: the same run, over the bits. -/
theorem frame_k : Cert.quiescent_Kernel := fun m ρ _ => frame_bits m ρ _ defs_eq

/-- The reference's frame. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame from the memories the precondition admits. -/
theorem frame_ri_pre : Cert.quiescent_ReferenceIdeal_pre_finite_inputs_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant is minus infinity at the ideal instance, and its own bits at `Bits`. -/
theorem mask_named : Cert.preserves_Kernel_KernelIdeal :=
  IdealRules.named_const.statement Cert.KernelIdeal.κ "mask" .f32 0xCE6E6B28#32 ⊥ rfl

end Cert.Halo
-- ==== Proof.Softmax.lean ====
/-
# The softmax, over the extended reals

A row of real scores, some of them masked to minus infinity: subtracting the row's maximum before the exponential, and
dividing each weight before the product with the values rather than the product afterwards, changes nothing. The values
may be infinite.
-/
module

public import Idealize.ShloMosaic.PureOps.Ideal
public import Idealize.ShloMosaic.Lib.Pointwise.Tactic

@[expose] public section

noncomputable section

namespace Cert.Halo

open Idealize.ShloMosaic

variable {ι : Type*} [Fintype ι]

/-- A masked score: the score itself where the key is in the window, minus infinity elsewhere. -/
def masked (P : ι → Prop) [DecidablePred P] (S : ι → ℝ) (j : ι) : EReal := if P j then (S j : EReal) else ⊥

/-- A masked score's weight, as a real. -/
def wt (P : ι → Prop) [DecidablePred P] (S : ι → ℝ) (j : ι) : ℝ := if P j then Real.exp (S j) else 0

/-- The exponential of a masked score is its weight. -/
theorem exp_masked (P : ι → Prop) [DecidablePred P] (S : ι → ℝ) (j : ι) :
    Ideal.exp (masked P S j) = (wt P S j : EReal) := by
  unfold masked wt
  split <;> simp

theorem wt_nonneg (P : ι → Prop) [DecidablePred P] (S : ι → ℝ) (j : ι) : 0 ≤ wt P S j := by
  unfold wt
  split
  · exact (Real.exp_pos _).le
  · exact le_rfl

/-- The weights of a row with a key in the window add up to a positive number. -/
theorem sum_wt_pos (P : ι → Prop) [DecidablePred P] (S : ι → ℝ) (h : ∃ j, P j) : 0 < ∑ j, wt P S j := by
  obtain ⟨j, hj⟩ := h
  refine Finset.sum_pos' (fun j _ => wt_nonneg P S j) ⟨j, Finset.mem_univ _, ?_⟩
  unfold wt
  rw [if_pos hj]
  exact Real.exp_pos _

/-- A finite sum of reals is real. -/
theorem coe_sum (f : ι → ℝ) : ((∑ j, f j : ℝ) : EReal) = ∑ j, (f j : EReal) := by
  classical
  induction (Finset.univ : Finset ι) using Finset.induction_on with
  | empty => simp
  | insert a s ha ih => rw [Finset.sum_insert ha, Finset.sum_insert ha, EReal.coe_add, ih]

/-- A nonnegative real factor moves into a sum of extended reals. -/
theorem mul_sum_coe (c : ℝ) (hc : 0 ≤ c) (f : ι → EReal) : (c : EReal) * ∑ j, f j = ∑ j, (c : EReal) * f j := by
  classical
  induction (Finset.univ : Finset ι) using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The maximum of a row with a key in the window is real. -/
theorem max_masked (P : ι → Prop) [DecidablePred P] (S : ι → ℝ) (h : ∃ j, P j) :
    ∃ r : ℝ, Finset.univ.fold max (⊥ : EReal) (masked P S) = (r : EReal) := by
  classical
  have key : ∀ s : Finset ι, (∃ r : ℝ, s.fold max (⊥ : EReal) (masked P S) = (r : EReal))
      ∨ (s.fold max (⊥ : EReal) (masked P S) = ⊥ ∧ ∀ j ∈ s, ¬ P j) := by
    intro s
    induction s using Finset.induction_on with
    | empty => right; simp
    | insert a s ha ih =>
      rw [Finset.fold_insert ha]
      by_cases hp : P a
      · left
        have e : masked P S a = (S a : EReal) := if_pos hp
        rcases ih with ⟨r, hr⟩ | ⟨hb, -⟩
        · exact ⟨max (S a) r, by rw [e, hr]; exact (EReal.coe_strictMono.monotone.map_max (a := S a) (b := r)).symm⟩
        · exact ⟨S a, by rw [e, hb]; exact max_bot_right _⟩
      · have e : masked P S a = ⊥ := if_neg hp
        rw [e, max_bot_left]
        rcases ih with h1 | ⟨hb, hn⟩
        · exact .inl h1
        · refine .inr ⟨hb, fun j hj => ?_⟩
          rcases Finset.mem_insert.mp hj with rfl | hj
          · exact hp
          · exact hn j hj
  rcases key Finset.univ with h1 | ⟨-, hn⟩
  · exact h1
  · obtain ⟨j, hj⟩ := h
    exact absurd hj (hn j (Finset.mem_univ _))

/-- A masked score less the row's maximum has the weight scaled by one positive number. -/
theorem exp_masked_sub (P : ι → Prop) [DecidablePred P] (S : ι → ℝ) (r : ℝ) (j : ι) :
    Ideal.exp (masked P S j - (r : EReal)) = ((Real.exp (-r) * wt P S j : ℝ) : EReal) := by
  unfold masked wt
  split
  · rw [← EReal.coe_sub, Ideal.exp_coe, ← Real.exp_add]
    congr 2
    ring
  · rw [EReal.bot_sub, Ideal.exp_bot, mul_zero, EReal.coe_zero]

/-- The attention of one query, normalised weight by weight after the maximum's subtraction, is the weighted sum of the
    values divided once at the end. -/
theorem softmax_eq (P : ι → Prop) [DecidablePred P] (S : ι → ℝ) (h : ∃ j, P j) (V : ι → EReal) :
    (∑ j, V j * Ideal.div (Ideal.exp (masked P S j - Finset.univ.fold max (⊥ : EReal) (masked P S)))
        (∑ k, Ideal.exp (masked P S k - Finset.univ.fold max (⊥ : EReal) (masked P S))))
      = Ideal.div (∑ j, (wt P S j : EReal) * V j) ((∑ j, wt P S j : ℝ) : EReal) := by
  obtain ⟨r, hr⟩ := max_masked P S h
  have hs := sum_wt_pos P S h
  have hc := Real.exp_pos (-r)
  rw [hr]
  simp only [exp_masked_sub]
  rw [← coe_sum, ← Finset.mul_sum, Ideal.div_coe hs.ne', mul_comm (∑ j, (wt P S j : EReal) * V j) _, mul_sum_coe _ (by positivity)]
  refine Finset.sum_congr rfl fun j _ => ?_
  rw [Ideal.div_coe (mul_pos hc hs).ne', ← EReal.coe_mul, mul_comm (V j), ← mul_assoc, ← EReal.coe_mul]
  congr 2
  field_simp

/-- Sums over the keys of a window are the same over any numbering of the keys. -/
theorem sum_window {κ : Type*} [Fintype κ] (P : ι → Prop) [DecidablePred P] (Q : κ → Prop) [DecidablePred Q]
    (e : (j : ι) → P j → κ) (hQ : ∀ j hj, Q (e j hj)) (inj : ∀ i hi j hj, e i hi = e j hj → i = j)
    (surj : ∀ k, Q k → ∃ j, ∃ hj, e j hj = k) {M : Type*} [AddCommMonoid M] (f : ι → M) (g : κ → M)
    (hf : ∀ j, ¬ P j → f j = 0) (hg : ∀ k, ¬ Q k → g k = 0) (hfg : ∀ j hj, f j = g (e j hj)) :
    ∑ j, f j = ∑ k, g k := by
  classical
  rw [← Finset.sum_filter_of_ne (p := P) (s := Finset.univ) (f := f) (fun j _ hn => by by_contra hp; exact hn (hf j hp)),
    ← Finset.sum_filter_of_ne (p := Q) (s := Finset.univ) (f := g) (fun j _ hn => by by_contra hp; exact hn (hg j hp))]
  refine Finset.sum_bij (fun j hj => e j (Finset.mem_filter.mp hj).2) ?_ ?_ ?_ ?_
  · intro j hj; exact Finset.mem_filter.mpr ⟨Finset.mem_univ _, hQ _ _⟩
  · intro i hi j hj hij; exact inj _ _ _ _ hij
  · intro k hk
    obtain ⟨j, hj, rfl⟩ := surj k (Finset.mem_filter.mp hk).2
    exact ⟨j, Finset.mem_filter.mpr ⟨Finset.mem_univ _, hj⟩, rfl⟩
  · intro j hj; exact hfg _ _

end Cert.Halo
-- ==== Proof.Masks.lean ====
/-
# The masks' words

The window test on 32-bit words reads as the integers it looks like.
-/
module

public import Idealize.ShloMosaic.Lib.Pointwise
public import Idealize.ShloMosaic.Lib.WordArith

@[expose] public section

noncomputable section

namespace Cert.Halo

open Idealize.ShloMosaic
open Idealize.ShloMosaic.WordArith

/-- Signed at-most, on the integers. -/
theorem cmpi_sle (x y : BitVec 32) : IntOp.cmpi .sle x y = BitVec.ofBool (decide (x.toInt ≤ y.toInt)) := by
  unfold IntOp.cmpi
  rfl

/-- Signed at-least, on the integers. -/
theorem cmpi_sge (x y : BitVec 32) : IntOp.cmpi .sge x y = BitVec.ofBool (decide (y.toInt ≤ x.toInt)) := by
  unfold IntOp.cmpi
  rfl

/-- Signed less-than, on the integers. -/
theorem cmpi_slt (x y : BitVec 32) : IntOp.cmpi .slt x y = BitVec.ofBool (decide (x.toInt < y.toInt)) := by
  unfold IntOp.cmpi
  rfl

/-- The absolute value of a word that is not too far from zero. -/
theorem toInt_absi (x : BitVec 32) (h1 : -1000000 ≤ x.toInt) (h2 : x.toInt ≤ 1000000) : (IntOp.absi x).toInt = |x.toInt| := by
  unfold IntOp.absi
  rw [BitVec.msb_eq_toInt]
  split
  · rename_i h
    have h : x.toInt < 0 := by simpa using h
    rw [BitVec.toInt_neg, abs_of_neg h, Int.bmod_eq_of_le (by omega) (by omega)]
  · rename_i h
    have h : 0 ≤ x.toInt := by simpa using h
    rw [abs_of_nonneg h]

/-- The window test of two words that are not too far from zero. -/
theorem near (x y : BitVec 32) (h1 : -1000 ≤ x.toInt) (h2 : x.toInt ≤ 1000) (h3 : -1000 ≤ y.toInt) (h4 : y.toInt ≤ 1000) :
    IntOp.cmpi .sle (IntOp.absi (IntOp.subi x y)) 128#32 = BitVec.ofBool (decide (|x.toInt - y.toInt| ≤ 128)) := by
  have e : (IntOp.subi x y).toInt = x.toInt - y.toInt := toInt_sub_of_bounds x y (by omega) (by omega)
  rw [cmpi_sle, toInt_absi _ (by omega) (by omega), e]
  rfl

/-- A choice by a decided bit. -/
theorem select_ofBool {α : Type} (p : Prop) [Decidable p] (x y : α) :
    Scalar.select (BitVec.ofBool (decide p)) x y = if p then x else y := by
  by_cases h : p <;> simp [Scalar.select, h]

end Cert.Halo
-- ==== Proof.Heads.lean ====
/-
# The kernel's output, head by head

The body's output block is one projection of eight contexts laid side by side, each context the same text over its own
slice of the queries and its own head of the filled halo buffers. Read at an index at the ideal instance.
-/
module

public import proofs.«01_k».proof.Proof.Body
public import proofs.«01_k».proof.Proof.Softmax
public import proofs.«01_k».proof.Proof.Masks
public import Idealize.ShloMosaic.Lib.Pointwise
public import Idealize.ShloMosaic.Lib.ValueIdx

@[expose] public section

set_option maxRecDepth 16384

noncomputable section

namespace Cert.Halo

open Cert.KernelIdeal Cert.KernelIdeal.Gen

open Idealize.ShloMosaic
open Idealize.ShloMosaic.TcCoe

section
variable {F : FTy → Type} [FloatOps F] [Named F]

/-- Three slots of one head, laid end to end. -/
def cat3 (x : Vec F S3x1x1x128x64 .bf16) : FVec F S384x64 .bf16 :=
  shapeCast S384x64 (shapeCast S3x128x64 x shapeCasts_S3x1x1x128x64_S3x128x64) shapeCasts_S3x128x64_S384x64

/-- The unnormalised weights of one head. -/
def headW (q : FVec F S128x64 .bf16) (msk : IVec S128x384 1) (k3 : Vec F S3x1x1x128x64 .bf16) : FVec F S128x384 .f32 :=
  exp (select msk (matmul dot_S128x64_S384x64_S128x384_1_1_0_0_n_n none q (cat3 k3) (constant S128x384 .f32 0x00000000#32))
    (broadcast S128x384 (Named.named κ "mask" 0xCE6E6B28#32 : F .f32)))

/-- The context of one head. -/
def headC (q : FVec F S128x64 .bf16) (msk : IVec S128x384 1) (k3 v3 : Vec F S3x1x1x128x64 .bf16) : FVec F S128x64 .f32 :=
  divf (matmul dot_S128x384_S384x64_S128x64_1_0_0_1_n_n none (truncf .bf16 (headW q msk k3) bitsLt_bf16_f32) (cat3 v3)
      (constant S128x64 .f32 0x00000000#32))
    (broadcastTo S128x64 (shapeCast S128x1 (multiReduction .add [1] S128 (headW q msk k3) 0x00000000#32 reduces_S128x384_S128
      (.inl rfl) rfl) shapeCasts_S128_S128x1) broadcasts_S128x1_S128x64)

/-- Four contexts side by side. -/
def catH (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

/-- Two batches one above the other, projected. -/
def proj (wo : FVec F S256x512 .bf16) (a b : FVec F S128x256 .f32) : FVec F S2x128x512 .f32 :=
  shapeCast S2x128x512 (matmul dot_S256x256_S256x512_S256x512_1_0_0_1_n_n none
    (truncf .bf16 (concatenate S256x256 0 [⟨S128x256, a⟩, ⟨S128x256, b⟩] concatenates_S128x256_S128x256_S256x256_d0) bitsLt_bf16_f32)
    wo (constant S256x512 .f32 0x00000000#32)) shapeCasts_S256x512_S2x128x512

/-- The body's output block, head by head. -/
theorem attOut_eq (q : FVec F S256x256 .bf16) (msk : IVec S128x384 1) (wo : FVec F S256x512 .bf16)
    (kf vf : S3x2x4x128x64.Idx → Elt F .bf16) :
    attOut q msk wo kf vf = proj wo
      (catH
        (headC (extractStridedSlice S128x64 ![0, 0] q slices_S256x256_o0_0_S128x64) msk (h3 kf 0 0) (h3 vf 0 0))
        (headC (extractStridedSlice S128x64 ![0, 64] q slices_S256x256_o0_64_S128x64) msk (h3 kf 0 1) (h3 vf 0 1))
        (headC (extractStridedSlice S128x64 ![0, 128] q slices_S256x256_o0_128_S128x64) msk (h3 kf 0 2) (h3 vf 0 2))
        (headC (extractStridedSlice S128x64 ![0, 192] q slices_S256x256_o0_192_S128x64) msk (h3 kf 0 3) (h3 vf 0 3)))
      (catH
        (headC (extractStridedSlice S128x64 ![128, 0] q slices_S256x256_o128_0_S128x64) msk (h3 kf 1 0) (h3 vf 1 0))
        (headC (extractStridedSlice S128x64 ![128, 64] q slices_S256x256_o128_64_S128x64) msk (h3 kf 1 1) (h3 vf 1 1))
        (headC (extractStridedSlice S128x64 ![128, 128] q slices_S256x256_o128_128_S128x64) msk (h3 kf 1 2) (h3 vf 1 2))
        (headC (extractStridedSlice S128x64 ![128, 192] q slices_S256x256_o128_192_S128x64) msk (h3 kf 1 3) (h3 vf 1 3))) := rfl

end

/-- The mask constant at the ideal instance. -/
theorem mask_bot : (Named.named κ "mask" 0xCE6E6B28#32 : Ideal .f32) = (⊥ : EReal) :=
  IdealRules.named_const.ideal_named_scalar _ _ _ _ rfl

/-- A weight at an index. -/
theorem headW_apply (q : FVec Ideal S128x64 .bf16) (msk : IVec S128x384 1) (k3 : Vec Ideal S3x1x1x128x64 .bf16)
    (i : Fin 128) (j : Fin 384) : headW q msk k3 (ix2 i j)
      = Ideal.exp (Scalar.select (msk (ix2 i j)) (∑ d : Fin 64, q (ix2 i d) * k3 (ix5 (⟨j.val / 128, by omega⟩ : Fin 3) (0 : Fin 1) (0 : Fin 1) (⟨j.val % 128, by omega⟩ : Fin 128) d)) (⊥ : EReal)) := by
  pointwise [headW, cat3, mask_bot]

/-- A context at an index. -/
theorem headC_apply (q : FVec Ideal S128x64 .bf16) (msk : IVec S128x384 1) (k3 v3 : Vec Ideal S3x1x1x128x64 .bf16)
    (i : Fin 128) (d : Fin 64) : headC q msk k3 v3 (ix2 i d)
      = Ideal.div (∑ j : Fin 384, headW q msk k3 (ix2 i j) * v3 (ix5 (⟨j.val / 128, by omega⟩ : Fin 3) (0 : Fin 1) (0 : Fin 1) (⟨j.val % 128, by omega⟩ : Fin 128) d))
          (∑ j : Fin 384, headW q msk k3 (ix2 i j)) := by
  pointwise [headC, cat3]

/-- One head of a filled buffer at an index. -/
theorem h3_apply (f : S3x2x4x128x64.Idx → Elt Ideal .bf16) (b : Fin 2) (h : Fin 4) (s : Fin 3) (r : Fin 128) (d : Fin 64) :
    h3 f b.val h.val b.isLt h.isLt (ix5 s (0 : Fin 1) (0 : Fin 1) r d) = f (ix5 s b h r d) := by
  unfold h3
  refine congrArg f (funext fun a => Fin.ext ?_)
  fin_cases a <;> simp [Rect.emb, Rect.unit, ix5]

/-- Four contexts side by side, at an index. -/
theorem catH_apply (x : Fin 4 → FVec Ideal S128x64 .f32) (i : Fin 128) (k : Fin 256) :
    catH (x 0) (x 1) (x 2) (x 3) (ix2 i k) = x (⟨k.val / 64, by omega⟩ : Fin 4) (ix2 i (⟨k.val % 64, by omega⟩ : Fin 64)) := by
  pointwise [catH]
  have hx : ∀ (h : Fin 4) (d : Fin 64), k.val = h.val * 64 + d.val →
      x (⟨k.val / 64, by omega⟩ : Fin 4) (ix2 i (⟨k.val % 64, by omega⟩ : Fin 64)) = x h (ix2 i d) := by
    intro h d e
    have e1 : (⟨k.val / 64, by omega⟩ : Fin 4) = h := Fin.ext (by show k.val / 64 = h.val; omega)
    have e2 : (⟨k.val % 64, by omega⟩ : Fin 64) = d := Fin.ext (by show k.val % 64 = d.val; omega)
    rw [e1, e2]
  have hk := k.isLt
  by_cases h0 : k.val < 64
  · rw [dif_pos h0]
    exact (hx 0 ⟨k.val, h0⟩ (by simp)).symm
  rw [dif_neg h0]
  by_cases h1 : k.val - 64 < 64
  · rw [dif_pos h1]
    exact (hx 1 ⟨k.val - 64, h1⟩ (by simp; omega)).symm
  rw [dif_neg h1]
  by_cases h2 : k.val - 64 - 64 < 64
  · rw [dif_pos h2]
    exact (hx 2 ⟨k.val - 64 - 64, h2⟩ (by simp; omega)).symm
  rw [dif_neg h2]
  exact (hx 3 ⟨k.val - 64 - 64 - 64, by omega⟩ (by simp; omega)).symm

/-- The projection at an index. -/
theorem proj_apply (wo : FVec Ideal S256x512 .bf16) (x : Fin 2 → FVec Ideal S128x256 .f32) (b : Fin 2) (i : Fin 128) (e : Fin 512) :
    proj wo (x 0) (x 1) (ix3 b i e) = ∑ k : Fin 256, x b (ix2 i k) * wo (ix2 k e) := by
  pointwise [proj]
  refine Finset.sum_congr rfl fun k _ => ?_
  congr 1
  have hi := i.isLt
  fin_cases b
  · rw [dif_pos (by simp)]
    refine congrArg (x 0) ?_
    congr 1
    exact Fin.ext (by simp)
  · rw [dif_neg (by simp)]
    refine congrArg (x 1) ?_
    congr 1
    exact Fin.ext (by simp)

/-- The scaled queries at an index. -/
theorem q_apply (x : Vec Ideal S2x128x512 .bf16) (wq : Vec Ideal S512x256 .bf16) (r : Fin 256) (k : Fin 256) :
    k0_pay20 x wq (ix2 r k) = (∑ e : Fin 512, x (ix3 (⟨r.val / 128, by omega⟩ : Fin 2) (⟨r.val % 128, by omega⟩ : Fin 128) e) * wq (ix2 e k))
      * Ideal.ofBits .f32 0x3E000000#32 := by
  pointwise [k0_pay20]

/-- Query row `i` of device `c` attends to row `j` of its three slots. -/
def valid (c : Dev nD) (i : Fin 128) (j : Fin 384) : Prop :=
  i.val ≤ j.val ∧ j.val ≤ i.val + 256 ∧ 128 ≤ c.val * 128 + j.val ∧ c.val * 128 + j.val < 640

instance (c : Dev nD) (i : Fin 128) (j : Fin 384) : Decidable (valid c i j) := by unfold valid; infer_instance

/-- The first query row of a device, as a word. -/
theorem rowBase (c : Dev nD) : (Scalar.muli (my c) 128#32).toInt = 128 * (c.val : Int) := by
  fin_cases c <;> decide

/-- The first key row in a device's slots, as a word. -/
theorem keyBase (c : Dev nD) : (Scalar.muli (Scalar.subi (my c) 1#32) 128#32).toInt = 128 * (c.val : Int) - 128 := by
  fin_cases c <;> decide

/-- The mask at an index. -/
theorem mask_apply (c : Dev nD) (i : Fin 128) (j : Fin 384) : maskOf (my c) (ix2 i j) = BitVec.ofBool (decide (valid c i j)) := by
  pointwise [maskOf, k0_pay21, k0_pay22]
  have hc : c.val < 4 := c.isLt
  have hi : (BitVec.ofNat 32 i.val).toInt = i.val := WordArith.toInt_ofNat_small _ (by omega)
  have hj : (BitVec.ofNat 32 j.val).toInt = j.val := WordArith.toInt_ofNat_small _ (by omega)
  have ha : (IntOp.addi (Scalar.muli (my c) 128#32) (BitVec.ofNat 32 i.val)).toInt = 128 * (c.val : Int) + i.val := by
    have := WordArith.toInt_add_of_bounds (Scalar.muli (my c) 128#32) (BitVec.ofNat 32 i.val)
      (by rw [rowBase, hi]; omega) (by rw [rowBase, hi]; omega)
    rw [rowBase, hi] at this
    exact this
  have hb : (IntOp.addi (Scalar.muli (Scalar.subi (my c) 1#32) 128#32) (BitVec.ofNat 32 j.val)).toInt
      = 128 * (c.val : Int) - 128 + j.val := by
    have := WordArith.toInt_add_of_bounds (Scalar.muli (Scalar.subi (my c) 1#32) 128#32) (BitVec.ofNat 32 j.val)
      (by rw [keyBase, hj]; omega) (by rw [keyBase, hj]; omega)
    rw [keyBase, hj] at this
    exact this
  rw [near _ _ (by omega) (by omega) (by omega) (by omega), cmpi_sge, cmpi_slt, ha, hb,
    show (0#32 : BitVec 32).toInt = 0 from rfl, show (512#32 : BitVec 32).toInt = 512 from rfl]
  have key : ∀ p q : Bool, IntOp.andi (BitVec.ofBool p) (BitVec.ofBool q) = BitVec.ofBool (p && q) := by decide
  rw [key, key, ← Bool.decide_and, ← Bool.decide_and]
  congr 1
  refine decide_eq_decide.2 ?_
  unfold valid
  rw [abs_le]
  omega

end Cert.Halo
-- ==== Proof.Ref.lean ====
/-
# The reference, stage by stage

The reference's result is its own text cut into stages: scores, exponentials, weights, projected contexts. Each stage is
read at an index at the ideal instance.
-/
module

public import proofs.«01_k».proof.Proof.Gen.ReferenceIdeal.Run
public import proofs.«01_k».proof.Proof.Softmax
public import proofs.«01_k».proof.Proof.Masks
public import Idealize.ShloMosaic.Lib.Pointwise

@[expose] public section

set_option maxRecDepth 16384

noncomputable section

namespace Cert.Halo.Ref

open Cert.ReferenceIdeal Cert.ReferenceIdeal.Gen

open Idealize.ShloMosaic
open Idealize.ShloMosaic.TcCoe

section
variable {F : FTy → Type} [FloatOps F]

/-- The window test of all queries against all keys. -/
def winW : IVec S512x512 1 :=
  cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))

/-- Whether a query has a key in its window. -/
def keepW : IVec S512 1 :=
  Host.reduce IntOp.ori winW (constantI S_ 1 0#1) reducesTo_S512x512_S512_d1 h_S_

/-- The queries. -/
def refQ (x : FVec F S2x512x512 .bf16) (wq : FVec F S512x256 .bf16) : FVec F S2x512x4x64 .bf16 :=
  shapeCast S2x512x4x64 (truncf .bf16 (Host.dotGeneral dot_S2x512x512_S512x256_S2x512x256_2_0_01_1_n_n none x wq) bitsLt_bf16_f32) shapeCasts_S2x512x256_S2x512x4x64

/-- The masked scores. -/
def refS (q k : FVec F S2x512x4x64 .bf16) : FVec F S2x4x512x512 .f32 :=
  select (broadcastInDim S2x4x512x512 ![0, 1, 2, 3] bcast_S1x1x512x512_S2x4x512x512_0_1_2_3 (broadcastInDim S1x1x512x512 ![2, 3] bcast_S512x512_S1x1x512x512_2_3 winW)) (mulf (extf .f32 (truncf .bf16 (Host.dotGeneral dot_S2x512x4x64_S2x512x4x64_S2x4x512x512_3_3_1_1_02_02 none q k) bitsLt_bf16_f32) bitsLt_bf16_f32) (broadcastInDim S2x4x512x512 ![] bcast_S_S2x4x512x512 (constant S_ .f32 0x3E000000#32))) (broadcastInDim S2x4x512x512 ![] bcast_S_S2x4x512x512 (id (constant S_ .f32 0xFF800000#32)))

/-- The exponentials, each row shifted by its maximum. -/
def refE (s : FVec F S2x4x512x512 .f32) : FVec F S2x4x512x512 .f32 :=
  Host.exp (subf s (broadcastInDim S2x4x512x512 ![0, 1, 2, 3] bcast_S2x4x512x1_S2x4x512x512_0_1_2_3 (broadcastInDim S2x4x512x1 ![0, 1, 2] bcast_S2x4x512_S2x4x512x1_0_1_2 (Host.reduce FloatOps.maximumf s (constant S_ .f32 0xFF800000#32) reducesTo_S2x4x512x512_S2x4x512_d3 h_S_))))

/-- The attention weights. -/
def refW (u : FVec F S2x4x512x512 .f32) : FVec F S2x4x512x512 .f32 :=
  select (broadcastInDim S2x4x512x512 ![0, 1, 2, 3] bcast_S1x1x512x1_S2x4x512x512_0_1_2_3 (broadcastInDim S1x1x512x1 ![2] bcast_S512_S1x1x512x1_2 keepW)) (Host.divf u (broadcastInDim S2x4x512x512 ![0, 1, 2, 3] bcast_S2x4x512x1_S2x4x512x512_0_1_2_3 (select (broadcastInDim S2x4x512x1 ![0, 1, 2, 3] bcast_S1x1x512x1_S2x4x512x1_0_1_2_3 (broadcastInDim S1x1x512x1 ![2] bcast_S512_S1x1x512x1_2 keepW)) (broadcastInDim S2x4x512x1 ![0, 1, 2] bcast_S2x4x512_S2x4x512x1_0_1_2 (Host.reduceAdd u (constant S_ .f32 0x00000000#32) reducesTo_S2x4x512x512_S2x4x512_d3 h_S_)) (broadcastInDim S2x4x512x1 ![] bcast_S_S2x4x512x1 (id (constant S_ .f32 0x3F800000#32)))))) (broadcastInDim S2x4x512x512 ![] bcast_S_S2x4x512x512 (id (constant S_ .f32 0x00000000#32)))

/-- The contexts, projected. -/
def refO (v : FVec F S2x512x4x64 .bf16) (w : FVec F S2x4x512x512 .f32) (wo : FVec F S256x512 .bf16) : FVec F S2x512x512 .f32 :=
  Host.dotGeneral dot_S2x512x256_S256x512_S2x512x512_2_0_01_1_n_n none (shapeCast S2x512x256 (transpose S2x512x4x64 [0, 3, 1, 2] (Host.dotGeneral dot_S2x512x4x64_S2x4x512x512_S2x4x64x512_1_3_3_2_02_01 none (extf .f32 v bitsLt_bf16_f32) w) transposes_S2x4x64x512_S2x512x4x64_0_3_1_2) shapeCasts_S2x512x4x64_S2x512x256) (extf .f32 wo bitsLt_bf16_f32)

/-- The reference's result, stage by stage. -/
theorem res_stages (m : (ℓ : Loc nD τ sig) → Buf (Elt F) ℓ) (c : Dev nD) : Value.res_main_v39 m c
    = refO (m ((c.tc : Thread nD τ).loc main_arg3)) (refW (refE (refS (refQ (m ((c.tc : Thread nD τ).loc main_arg0))
        (m ((c.tc : Thread nD τ).loc main_arg1))) (m ((c.tc : Thread nD τ).loc main_arg2))))) (m ((c.tc : Thread nD τ).loc main_arg4)) := rfl

end

/-- Query `i` attends to key `j`. -/
def inWin (i j : Fin 512) : Prop := i.val ≤ j.val + 128 ∧ j.val ≤ i.val + 128

instance (i : Fin 512) : DecidablePred (inWin i) := fun j => by unfold inWin; infer_instance

/-- The reference's mask at an index. -/
theorem win_apply (i j : Fin 512) : winW (ix2 i j) = BitVec.ofBool (decide (inWin i j)) := by
  pointwise [winW]
  have hi : (BitVec.ofNat 32 i.val).toInt = i.val := WordArith.toInt_ofNat_small _ (by omega)
  have hj : (BitVec.ofNat 32 j.val).toInt = j.val := WordArith.toInt_ofNat_small _ (by omega)
  rw [near _ _ (by omega) (by omega) (by omega) (by omega), hi, hj]
  congr 1
  refine decide_eq_decide.2 ?_
  unfold inWin
  rw [abs_le]
  omega

/-- Every query has itself in its window. -/
theorem keep_apply (i : Fin 512) : keepW (ix1 i) = 1#1 := by
  pointwise [keepW]
  rw [← Finset.insert_erase (Finset.mem_univ i), Finset.fold_insert (Finset.notMem_erase _ _), win_apply,
    decide_eq_true (show inWin i i from ⟨by omega, by omega⟩)]
  have key : ∀ y : BitVec 1, IntOp.ori (BitVec.ofBool true) y = 1#1 := by decide
  exact key _

/-- Minus infinity's word. -/
theorem negInf : Ideal.ofBits .f32 0xFF800000#32 = (⊥ : EReal) := by
  simp [Ideal.ofBits, Ideal.ieee, -EReal.coe_mul]

/-- One eighth's word. -/
theorem eighth : Ideal.ofBits .f32 0x3E000000#32 = ((1 / 8 : ℝ) : EReal) := by
  simp [Ideal.ofBits, Ideal.ieee, -EReal.coe_mul]
  norm_num

/-- A query at an index. -/
theorem refQ_apply (x : FVec Ideal S2x512x512 .bf16) (wq : FVec Ideal S512x256 .bf16) (b : Fin 2) (i : Fin 512) (h : Fin 4) (d : Fin 64) :
    refQ x wq (ix4 b i h d) = ∑ e : Fin 512, x (ix3 b i e) * wq (ix2 e (⟨h.val * 64 + d.val, by omega⟩ : Fin 256)) := by
  pointwise [refQ]

/-- A masked score at an index. -/
theorem refS_apply (q k : FVec Ideal S2x512x4x64 .bf16) (b : Fin 2) (h : Fin 4) (i j : Fin 512) :
    refS q k (ix4 b h i j) = if inWin i j then (∑ d : Fin 64, q (ix4 b i h d) * k (ix4 b j h d)) * ((1 / 8 : ℝ) : EReal) else (⊥ : EReal) := by
  pointwise [refS]
  rw [win_apply, select_ofBool, eighth, show (id (constant (F := Ideal) S_ .f32 0xFF800000#32) ix0) = (⊥ : EReal) from negInf]

/-- An exponential at an index. -/
theorem refE_apply (s : FVec Ideal S2x4x512x512 .f32) (b : Fin 2) (h : Fin 4) (i j : Fin 512) :
    refE s (ix4 b h i j) = Ideal.exp (s (ix4 b h i j) - Finset.univ.fold max (⊥ : EReal) fun j => s (ix4 b h i j)) := by
  pointwise [refE]
  rw [negInf]

/-- An attention weight at an index. -/
theorem refW_apply (u : FVec Ideal S2x4x512x512 .f32) (b : Fin 2) (h : Fin 4) (i j : Fin 512) :
    refW u (ix4 b h i j) = Ideal.div (u (ix4 b h i j)) (∑ k : Fin 512, u (ix4 b h i k)) := by
  pointwise [refW]
  rw [keep_apply]
  rfl

/-- An output at an index. -/
theorem refO_apply (v : FVec Ideal S2x512x4x64 .bf16) (w : FVec Ideal S2x4x512x512 .f32) (wo : FVec Ideal S256x512 .bf16) (b : Fin 2) (i : Fin 512) (e : Fin 512) :
    refO v w wo (ix3 b i e) = ∑ n : Fin 256, (∑ j : Fin 512, v (ix4 b j (⟨n.val / 64, by omega⟩ : Fin 4) (⟨n.val % 64, by omega⟩ : Fin 64))
      * w (ix4 b (⟨n.val / 64, by omega⟩ : Fin 4) i j)) * wo (ix2 n e) := by
  pointwise [refO]

/-- The score of query `i` and key `j`, over the reals. -/
def score (X : Fin 2 → Fin 512 → Fin 512 → ℝ) (W : Fin 512 → Fin 256 → ℝ) (K : Fin 2 → Fin 512 → Fin 4 → Fin 64 → ℝ)
    (b : Fin 2) (h : Fin 4) (i j : Fin 512) : ℝ :=
  (∑ d : Fin 64, (∑ e : Fin 512, X b i e * W e (⟨h.val * 64 + d.val, by omega⟩ : Fin 256)) * K b j h d) * (1 / 8)

/-- A context: the values of the window, weighted. -/
def ctx (X : Fin 2 → Fin 512 → Fin 512 → ℝ) (W : Fin 512 → Fin 256 → ℝ) (K : Fin 2 → Fin 512 → Fin 4 → Fin 64 → ℝ)
    (v : FVec Ideal S2x512x4x64 .bf16) (b : Fin 2) (h : Fin 4) (i : Fin 512) (d : Fin 64) : EReal :=
  Ideal.div (∑ j : Fin 512, (wt (inWin i) (score X W K b h i) j : EReal) * v (ix4 b j h d))
    ((∑ j : Fin 512, wt (inWin i) (score X W K b h i) j : ℝ) : EReal)

/-- The reference's result at an index, where x, Wq and K are real. -/
theorem ref_value (x : FVec Ideal S2x512x512 .bf16) (wq : FVec Ideal S512x256 .bf16) (k v : FVec Ideal S2x512x4x64 .bf16)
    (wo : FVec Ideal S256x512 .bf16) (X : Fin 2 → Fin 512 → Fin 512 → ℝ) (W : Fin 512 → Fin 256 → ℝ)
    (K : Fin 2 → Fin 512 → Fin 4 → Fin 64 → ℝ) (hx : ∀ b i e, x (ix3 b i e) = (X b i e : EReal))
    (hw : ∀ e n, wq (ix2 e n) = (W e n : EReal)) (hk : ∀ b j h d, k (ix4 b j h d) = (K b j h d : EReal))
    (b : Fin 2) (i e : Fin 512) :
    refO v (refW (refE (refS (refQ x wq) k))) wo (ix3 b i e)
      = ∑ n : Fin 256, ctx X W K v b (⟨n.val / 64, by omega⟩ : Fin 4) i (⟨n.val % 64, by omega⟩ : Fin 64) * wo (ix2 n e) := by
  rw [refO_apply]
  refine Finset.sum_congr rfl fun n _ => ?_
  congr 1
  generalize (⟨n.val / 64, by omega⟩ : Fin 4) = h
  generalize (⟨n.val % 64, by omega⟩ : Fin 64) = d
  have hS : ∀ j, refS (refQ x wq) k (ix4 b h i j) = masked (inWin i) (score X W K b h i) j := by
    intro j
    rw [refS_apply]
    unfold masked score
    congr 1
    rw [EReal.coe_mul, coe_sum]
    congr 1
    refine Finset.sum_congr rfl fun d _ => ?_
    rw [EReal.coe_mul, coe_sum, refQ_apply, hk]
    congr 1
    refine Finset.sum_congr rfl fun e _ => ?_
    rw [hx, hw, EReal.coe_mul]
  unfold ctx
  rw [← softmax_eq (inWin i) (score X W K b h i) ⟨i, by omega, by omega⟩ fun j => v (ix4 b j h d)]
  refine Finset.sum_congr rfl fun j _ => ?_
  simp only [refW_apply, refE_apply, hS]

end Cert.Halo.Ref
-- ==== Proof.Value.lean ====
/-
# The kernel's output block

On device `c` each context of the kernel is the reference's context of the query row `c · 128 + i`: the rows of the three
slots that pass the mask are the keys of the window, each once, and the others weigh nothing.
-/
module

public import proofs.«01_k».proof.Proof.Heads
public import proofs.«01_k».proof.Proof.Ref

@[expose] public section

set_option maxRecDepth 16384

noncomputable section

namespace Cert.Halo

open Cert.KernelIdeal Cert.KernelIdeal.Gen

open Idealize.ShloMosaic
open Idealize.ShloMosaic.TcCoe

/-- Row `i` of device `c`'s block, in the whole sequence. -/
def rowOf (c : Dev nD) (i : Fin 128) : Fin 512 := ⟨c.val * 128 + i.val, by have : c.val < 4 := c.isLt; omega⟩

/-- The device whose block sits in slot `s` of device `c`. -/
def slotDev (c : Dev nD) (s : Fin 3) : Dev nD := (![prv c, c, nxt c] : Fin 3 → Dev nD) s

/-- The key in the whole sequence that row `j` of the three slots holds. -/
def keyOf (c : Dev nD) (i : Fin 128) (j : Fin 384) (h : valid c i j) : Fin 512 :=
  ⟨c.val * 128 + j.val - 128, by unfold valid at h; omega⟩

/-- Inside the sequence, slot `s` holds the block `s - 1` further on. -/
theorem slotDev_val (c : Dev nD) (s : Fin 3) (h1 : 1 ≤ c.val + s.val) (h2 : c.val + s.val ≤ 4) :
    (slotDev c s).val = c.val + s.val - 1 := by
  revert c s
  decide

/-- A valid row of the slots is that row of its device's block. -/
theorem row_slot (c : Dev nD) (i : Fin 128) (j : Fin 384) (h : valid c i j) :
    rowOf (slotDev c (⟨j.val / 128, by omega⟩ : Fin 3)) (⟨j.val % 128, by omega⟩ : Fin 128) = keyOf c i j h := by
  unfold valid at h
  refine Fin.ext ?_
  show (slotDev c (⟨j.val / 128, by omega⟩ : Fin 3)).val * 128 + j.val % 128 = c.val * 128 + j.val - 128
  rw [slotDev_val c _ (by show 1 ≤ c.val + j.val / 128; omega) (by show c.val + j.val / 128 ≤ 4; omega)]
  show (c.val + j.val / 128 - 1) * 128 + j.val % 128 = _
  omega

section
variable (X : Fin 2 → Fin 512 → Fin 512 → ℝ) (W : Fin 512 → Fin 256 → ℝ) (K : Fin 2 → Fin 512 → Fin 4 → Fin 64 → ℝ)
  (v : FVec Ideal Cert.ReferenceIdeal.S2x512x4x64 .bf16)

/-- One head's context is the reference's. -/
theorem head_value (c : Dev nD) (b : Fin 2) (h : Fin 4) (q : FVec Ideal S128x64 .bf16) (k3 v3 : Vec Ideal S3x1x1x128x64 .bf16)
    (hq : ∀ i d, q (ix2 i d) = (((∑ e : Fin 512, X b (rowOf c i) e * W e (⟨h.val * 64 + d.val, by omega⟩ : Fin 256)) * (1 / 8) : ℝ) : EReal))
    (hk : ∀ s r d, k3 (ix5 s (0 : Fin 1) (0 : Fin 1) r d) = (K b (rowOf (slotDev c s) r) h d : EReal))
    (hv : ∀ s r d, v3 (ix5 s (0 : Fin 1) (0 : Fin 1) r d) = v (ix4 b (rowOf (slotDev c s) r) h d))
    (i : Fin 128) (d : Fin 64) :
    headC q (maskOf (my c)) k3 v3 (ix2 i d) = Ref.ctx X W K v b h (rowOf c i) d := by
  have hW : ∀ j, headW q (maskOf (my c)) k3 (ix2 i j)
      = if hj : valid c i j then (wt (Ref.inWin (rowOf c i)) (Ref.score X W K b h (rowOf c i)) (keyOf c i j hj) : EReal) else 0 := by
    intro j
    rw [headW_apply, mask_apply, select_ofBool]
    by_cases hj : valid c i j
    · have hin : Ref.inWin (rowOf c i) (keyOf c i j hj) := by
        unfold valid at hj
        unfold Ref.inWin rowOf keyOf
        constructor <;> simp only <;> omega
      rw [if_pos hj, dif_pos hj]
      unfold wt
      rw [if_pos hin, ← Ideal.exp_coe]
      congr 1
      unfold Ref.score
      rw [Finset.sum_mul, coe_sum]
      refine Finset.sum_congr rfl fun d _ => ?_
      rw [hq, hk, row_slot c i j hj, ← EReal.coe_mul]
      congr 1
      ring
    · rw [if_neg hj, dif_neg hj, Ideal.exp_bot]
  rw [headC_apply]
  unfold Ref.ctx
  have hQ : ∀ j hj, Ref.inWin (rowOf c i) (keyOf c i j hj) := by
    intro j hj
    unfold valid at hj
    unfold Ref.inWin rowOf keyOf
    constructor <;> simp only <;> omega
  have hinj : ∀ j hj j' hj', keyOf c i j hj = keyOf c i j' hj' → j = j' := by
    intro j hj j' hj' e
    have e := congrArg Fin.val e
    unfold valid at hj hj'
    unfold keyOf at e
    simp only at e
    exact Fin.ext (by omega)
  have hsurj : ∀ k, Ref.inWin (rowOf c i) k → ∃ j, ∃ hj : valid c i j, keyOf c i j hj = k := by
    intro k hk
    have hc : c.val < 4 := c.isLt
    unfold Ref.inWin rowOf at hk
    simp only at hk
    refine ⟨⟨k.val + 128 - c.val * 128, by omega⟩, ?_, ?_⟩
    · unfold valid
      simp only
      omega
    · unfold keyOf
      refine Fin.ext ?_
      simp only
      omega
  congr 1
  · refine sum_window (valid c i) (Ref.inWin (rowOf c i)) (keyOf c i) hQ hinj hsurj _ _ ?_ ?_ ?_
    · intro j hj
      rw [hW, dif_neg hj, zero_mul]
    · intro k hk
      unfold wt
      rw [if_neg hk, EReal.coe_zero, zero_mul]
    · intro j hj
      rw [hW, dif_pos hj, hv, row_slot c i j hj]
  · rw [coe_sum]
    refine sum_window (valid c i) (Ref.inWin (rowOf c i)) (keyOf c i) hQ hinj hsurj _ _ ?_ ?_ ?_
    · intro j hj
      rw [hW, dif_neg hj]
    · intro k hk
      unfold wt
      rw [if_neg hk, EReal.coe_zero]
    · intro j hj
      rw [hW, dif_pos hj]

/-- The block computed from queries, keys and values that are those of the reference. -/
theorem att_value (c : Dev nD) (q : FVec Ideal S256x256 .bf16) (wo : FVec Ideal S256x512 .bf16)
    (kf vf : S3x2x4x128x64.Idx → Elt Ideal .bf16)
    (hq : ∀ (b : Fin 2) (i : Fin 128) (h : Fin 4) (d : Fin 64), q (ix2 (⟨b.val * 128 + i.val, by omega⟩ : Fin 256) (⟨h.val * 64 + d.val, by omega⟩ : Fin 256))
      = (((∑ e : Fin 512, X b (rowOf c i) e * W e (⟨h.val * 64 + d.val, by omega⟩ : Fin 256)) * (1 / 8) : ℝ) : EReal))
    (hk : ∀ s b h r d, kf (ix5 s b h r d) = (K b (rowOf (slotDev c s) r) h d : EReal))
    (hv : ∀ s b h r d, vf (ix5 s b h r d) = v (ix4 b (rowOf (slotDev c s) r) h d))
    (b : Fin 2) (i : Fin 128) (e : Fin 512) :
    attOut q (maskOf (my c)) wo kf vf (ix3 b i e)
      = ∑ n : Fin 256, Ref.ctx X W K v b (⟨n.val / 64, by omega⟩ : Fin 4) (rowOf c i) (⟨n.val % 64, by omega⟩ : Fin 64) * wo (ix2 n e) := by
  have hd : ∀ (b : Fin 2) (h : Fin 4) (q2 : FVec Ideal S128x64 .bf16)
      (h2 : ∀ i d, q2 (ix2 i d) = q (ix2 (⟨b.val * 128 + i.val, by omega⟩ : Fin 256) (⟨h.val * 64 + d.val, by omega⟩ : Fin 256)))
      (i : Fin 128) (d : Fin 64), headC q2 (maskOf (my c)) (h3 kf b.val h.val b.isLt h.isLt) (h3 vf b.val h.val b.isLt h.isLt) (ix2 i d)
        = Ref.ctx X W K v b h (rowOf c i) d := fun b h q2 h2 i d =>
    head_value X W K v c b h q2 _ _ (fun i d => (h2 i d).trans (hq b i h d)) (fun s r d => (h3_apply kf b h s r d).trans (hk s b h r d))
      (fun s r d => (h3_apply vf b h s r d).trans (hv s b h r d)) i d
  rw [attOut_eq]
  refine (proj_apply wo ![_, _] b i e).trans (Finset.sum_congr rfl fun n _ => congrArg (· * _) ?_)
  fin_cases b
  · refine (catH_apply ![_, _, _, _] i n).trans ?_
    generalize (⟨n.val / 64, by omega⟩ : Fin 4) = h
    generalize (⟨n.val % 64, by omega⟩ : Fin 64) = d
    fin_cases h
    · exact hd 0 0 _ (fun i d => by pointwise []) i d
    · exact hd 0 1 _ (fun i d => by pointwise []) i d
    · exact hd 0 2 _ (fun i d => by pointwise []) i d
    · exact hd 0 3 _ (fun i d => by pointwise []) i d
  · refine (catH_apply ![_, _, _, _] i n).trans ?_
    generalize (⟨n.val / 64, by omega⟩ : Fin 4) = h
    generalize (⟨n.val % 64, by omega⟩ : Fin 64) = d
    fin_cases h
    · exact hd 1 0 _ (fun i d => by pointwise []) i d
    · exact hd 1 1 _ (fun i d => by pointwise []) i d
    · exact hd 1 2 _ (fun i d => by pointwise []) i d
    · exact hd 1 3 _ (fun i d => by pointwise []) i d

end

/-- A filled buffer at an index: slot `s` is its device's block. -/
theorem fullOf_apply (g : Dev nD → Vec Ideal S2x128x4x64 .bf16) (c : Dev nD) (s : Fin 3) (b : Fin 2) (h : Fin 4) (r : Fin 128) (d : Fin 64) :
    fullOf (g (prv c)) (g c) (g (nxt c)) (ix5 s b h r d) = g (slotDev c s) (ix4 b r h d) := by
  fin_cases s <;> rfl

end Cert.Halo
-- ==== Proof.Algebraic.lean ====
/-
# The kernel computes the reference

From memories where x, Wq and K are finite, every device's output block is its block of the reference's result.
-/
module

public import proofs.«01_k».proof.Proof.Value
public import proofs.«01_k».proof.Proof.Frames

@[expose] public section

set_option maxRecDepth 16384

noncomputable section

namespace Cert.Halo

open Cert.KernelIdeal Cert.KernelIdeal.Gen

open Idealize.ShloMosaic
open Idealize.ShloMosaic.TcCoe
open Idealize.SL.Sem

/-- The infinity of the precondition. -/
theorem posInf : Ideal.ofBits .bf16 0x7F80#16 = (⊤ : EReal) := by
  simp [Ideal.ofBits, Ideal.ieee, -EReal.coe_mul]

/-- What is smaller than infinity in absolute value is real. -/
theorem real_of (y : Ideal .bf16) (h : BitVec.ofBool (decide (FloatOps.absf y < Ideal.ofBits .bf16 0x7F80#16)) = 1#1) :
    y = ((EReal.toReal y : ℝ) : EReal) := by
  rw [posInf] at h
  have h : max (y : EReal) (-y) < (⊤ : EReal) := by
    by_contra hn
    change BitVec.ofBool (decide (max (y : EReal) (-y) < (⊤ : EReal))) = 1#1 at h
    rw [decide_eq_false hn] at h
    exact absurd h (by decide)
  refine (EReal.coe_toReal ?_ ?_).symm
  · rintro rfl
    exact absurd h (by simp)
  · rintro rfl
    exact absurd h (by simp)

section
variable (x : FVec Ideal S2x128x512 .bf16) (wq : FVec Ideal S512x256 .bf16) (k v : FVec Ideal S2x128x4x64 .bf16) (wo : FVec Ideal S256x512 .bf16)

/-- The precondition's first part: x is real. -/
theorem real_x (h : (Cert.Pre_finite_inputs_KernelIdeal.fn x wq k v wo).1 = fun _ => 1#1) (b : Fin 2) (i : Fin 128) (e : Fin 512) :
    x (ix3 b i e) = ((EReal.toReal (x (ix3 b i e)) : ℝ) : EReal) := by
  have h := congrFun h (ix3 b i e)
  revert h
  pointwise [Cert.Pre_finite_inputs_KernelIdeal.fn]
  exact real_of _

/-- Its second part: Wq is real. -/
theorem real_wq (h : (Cert.Pre_finite_inputs_KernelIdeal.fn x wq k v wo).2.1 = fun _ => 1#1) (e : Fin 512) (n : Fin 256) :
    wq (ix2 e n) = ((EReal.toReal (wq (ix2 e n)) : ℝ) : EReal) := by
  have h := congrFun h (ix2 e n)
  revert h
  pointwise [Cert.Pre_finite_inputs_KernelIdeal.fn]
  exact real_of _

/-- Its third part: K is real. -/
theorem real_k (h : (Cert.Pre_finite_inputs_KernelIdeal.fn x wq k v wo).2.2 = fun _ => 1#1) (b : Fin 2) (i : Fin 128) (a : Fin 4) (d : Fin 64) :
    k (ix4 b i a d) = ((EReal.toReal (k (ix4 b i a d)) : ℝ) : EReal) := by
  have h := congrFun h (ix4 b i a d)
  revert h
  pointwise [Cert.Pre_finite_inputs_KernelIdeal.fn]
  exact real_of _

end

/-- A block of a rank-three array at an index. -/
theorem block3 {α : Type} (c : Dev nD) (f : (⟨3, ![2, 512, 512]⟩ : Shape).Idx → α) (b : Fin 2) (i : Fin 128) (e : Fin 512) :
    Layout.block ⟨3, ![2, 128, 512]⟩ ⟨3, ![2, 512, 512]⟩ 1 4 c f (by decide) (ix3 b i e) = f (ix3 b (rowOf c i) e) := by
  refine congrArg f (funext fun a => Fin.ext ?_)
  fin_cases a <;> rfl

/-- A block of a rank-four array at an index. -/
theorem block4 {α : Type} (c : Dev nD) (f : (⟨4, ![2, 512, 4, 64]⟩ : Shape).Idx → α) (b : Fin 2) (i : Fin 128) (h : Fin 4) (d : Fin 64) :
    Layout.block ⟨4, ![2, 128, 4, 64]⟩ ⟨4, ![2, 512, 4, 64]⟩ 1 4 c f (by decide) (ix4 b i h d) = f (ix4 b (rowOf c i) h d) := by
  refine congrArg f (funext fun a => Fin.ext ?_)
  fin_cases a <;> rfl

/-- Every row of the sequence is a row of some device's block. -/
theorem row_surj (i : Fin 512) : ∃ (c : Dev nD) (r : Fin 128), rowOf c r = i :=
  ⟨(⟨i.val / 128, by omega⟩ : Fin 4), ⟨i.val % 128, by omega⟩, Fin.ext (by show i.val / 128 * 128 + i.val % 128 = i.val; omega)⟩

section
variable (m : (ℓ : Loc nD τ sig) → Buf (Elt Ideal) ℓ) (ρ : Dev nD → PrngReg) (c : Dev nD)

/-- The staged x is the argument. -/
theorem xstg_eq : xstg m ρ c = m ((c.tc : Thread nD τ).loc main_arg0) :=
  Memref.read_access_unit_zero (Elt Ideal) main_arg0 (funext fun a => by fin_cases a <;> decide) (fun a => by fin_cases a <;> decide) _

/-- The staged Wq is the argument. -/
theorem wqstg_eq : wqstg m ρ c = m ((c.tc : Thread nD τ).loc main_arg1) :=
  Memref.read_access_unit_zero (Elt Ideal) main_arg1 (funext fun a => by fin_cases a <;> decide) (fun a => by fin_cases a <;> decide) _

/-- The staged K is the argument. -/
theorem kstg_eq : kstg m ρ c = m ((c.tc : Thread nD τ).loc main_arg2) :=
  Memref.read_access_unit_zero (Elt Ideal) main_arg2 (funext fun a => by fin_cases a <;> decide) (fun a => by fin_cases a <;> decide) _

/-- The staged V is the argument. -/
theorem vstg_eq : vstg m ρ c = m ((c.tc : Thread nD τ).loc main_arg3) :=
  Memref.read_access_unit_zero (Elt Ideal) main_arg3 (funext fun a => by fin_cases a <;> decide) (fun a => by fin_cases a <;> decide) _

/-- The staged Wo is the argument. -/
theorem wostg_eq : wostg m ρ c = m ((c.tc : Thread nD τ).loc main_arg4) :=
  Memref.read_access_unit_zero (Elt Ideal) main_arg4 (funext fun a => by fin_cases a <;> decide) (fun a => by fin_cases a <;> decide) _

end

/-- The projection weights are read as they are. -/
theorem wo_apply (wo : FVec Ideal S256x512 .bf16) (n : Fin 256) (e : Fin 512) : k0_pay23 wo (ix2 n e) = wo (ix2 n e) := by
  pointwise [k0_pay23]

section
variable (x : FVec Ideal Cert.ReferenceIdeal.S2x512x512 .bf16) (wq : FVec Ideal Cert.ReferenceIdeal.S512x256 .bf16)
  (k v : FVec Ideal Cert.ReferenceIdeal.S2x512x4x64 .bf16) (wo : FVec Ideal Cert.ReferenceIdeal.S256x512 .bf16)

/-- A device's output block is its block of the reference's result, where x, Wq and K are real. -/
theorem out_value (m : (ℓ : Loc nD τ sig) → Buf (Elt Ideal) ℓ) (ρ : Dev nD → PrngReg)
    (hx : ∀ c b i e, xstg m ρ c (ix3 b i e) = x (ix3 b (rowOf c i) e))
    (hw : ∀ c e n, wqstg m ρ c (ix2 e n) = wq (ix2 e n))
    (hk : ∀ c b i h d, kstg m ρ c (ix4 b i h d) = k (ix4 b (rowOf c i) h d))
    (hv : ∀ c b i h d, vstg m ρ c (ix4 b i h d) = v (ix4 b (rowOf c i) h d))
    (ho : ∀ c n e, wostg m ρ c (ix2 n e) = wo (ix2 n e))
    (rx : ∀ c b i e, xstg m ρ c (ix3 b i e) = ((EReal.toReal (xstg m ρ c (ix3 b i e)) : ℝ) : EReal))
    (rw : ∀ c e n, wqstg m ρ c (ix2 e n) = ((EReal.toReal (wqstg m ρ c (ix2 e n)) : ℝ) : EReal))
    (rk : ∀ c b i h d, kstg m ρ c (ix4 b i h d) = ((EReal.toReal (kstg m ρ c (ix4 b i h d)) : ℝ) : EReal))
    (c : Dev nD) (b : Fin 2) (i : Fin 128) (e : Fin 512) :
    outAt m ρ c (ix3 b i e) = Ref.refO v (Ref.refW (Ref.refE (Ref.refS (Ref.refQ x wq) k))) wo (ix3 b (rowOf c i) e) := by
  have gx : ∀ b i e, x (ix3 b i e) = ((EReal.toReal (x (ix3 b i e)) : ℝ) : EReal) := by
    intro b i e
    obtain ⟨c, r, rfl⟩ := row_surj i
    rw [← hx]
    exact rx c b r e
  have gw : ∀ e n, wq (ix2 e n) = ((EReal.toReal (wq (ix2 e n)) : ℝ) : EReal) := by
    intro e n
    rw [← hw c]
    exact rw c e n
  have gk : ∀ b i h d, k (ix4 b i h d) = ((EReal.toReal (k (ix4 b i h d)) : ℝ) : EReal) := by
    intro b i h d
    obtain ⟨c, r, rfl⟩ := row_surj i
    rw [← hk]
    exact rk c b r h d
  refine Eq.trans ?_ (Ref.ref_value x wq k v wo (fun b i e => EReal.toReal (x (ix3 b i e))) (fun e n => EReal.toReal (wq (ix2 e n)))
    (fun b i h d => EReal.toReal (k (ix4 b i h d))) gx gw gk b (rowOf c i) e).symm
  unfold outAt
  refine (att_value (fun b i e => EReal.toReal (x (ix3 b i e))) (fun e n => EReal.toReal (wq (ix2 e n)))
    (fun b i h d => EReal.toReal (k (ix4 b i h d))) v c _ _ _ _ ?_ ?_ ?_ b i e).trans ?_
  · intro b i h d
    rw [q_apply, Ref.eighth, EReal.coe_mul, coe_sum]
    congr 1
    refine Finset.sum_congr rfl fun e _ => ?_
    rw [EReal.coe_mul, ← gx, ← gw, hw]
    congr 1
    have e1 : (⟨(b.val * 128 + i.val) / 128, by omega⟩ : Fin 2) = b := Fin.ext (by show (b.val * 128 + i.val) / 128 = b.val; omega)
    have e2 : (⟨(b.val * 128 + i.val) % 128, by omega⟩ : Fin 128) = i := Fin.ext (by show (b.val * 128 + i.val) % 128 = i.val; omega)
    show xstg m ρ c (ix3 (⟨(b.val * 128 + i.val) / 128, by omega⟩ : Fin 2) (⟨(b.val * 128 + i.val) % 128, by omega⟩ : Fin 128) e) = _
    rw [e1, e2, hx]
  · intro s b h r d
    unfold kfull
    rw [fullOf_apply (kstg m ρ), hk, ← gk]
  · intro s b h r d
    unfold vfull
    rw [fullOf_apply (vstg m ρ), hv]
  · refine Finset.sum_congr rfl fun n _ => ?_
    rw [wo_apply, ho]

end

/-- The kernel, on four devices, and the reference, on one: each device's result is its block of the reference's. -/
theorem algebraic : Cert.algebraic_KernelIdeal_ReferenceIdeal_pre_finite_inputs_KernelIdeal := by
  intro m g m' g' hpre hin
  refine ⟨Cert.ReferenceIdeal.Value.res_main_v39 m' 0, ?_, ?_⟩
  · refine (θ_run Cert.KernelIdeal.defs _ _).mono (fun _ h c => ?_) (run_read (F := Ideal) m g)
    refine ⟨(h.1 c).1.trans ?_, (h.1 c).2⟩
    suffices H : ∀ (b : Fin 2) (i : Fin 128) (e : Fin 512), outAt m g c (ix3 b i e)
        = Layout.block ⟨3, ![2, 128, 512]⟩ ⟨3, ![2, 512, 512]⟩ 1 4 c (Cert.ReferenceIdeal.Value.res_main_v39 m' 0) (by decide) (ix3 b i e) by
      funext j
      have e : j = ix3 (j 0) (j 1) (j 2) := by
        funext a
        fin_cases a <;> rfl
      rw [e]
      exact H _ _ _
    intro b i e
    refine Eq.trans ?_ (block3 c _ b i e).symm
    rw [Ref.res_stages]
    refine out_value _ _ _ _ _ m g ?_ ?_ ?_ ?_ ?_ ?_ ?_ ?_ c b i e
    · intro c b i e
      rw [xstg_eq, (hin c).1]
      exact block3 c _ b i e
    · intro c e n
      rw [wqstg_eq, (hin c).2.1]
    · intro c b i h d
      rw [kstg_eq, (hin c).2.2.1]
      exact block4 c _ b i h d
    · intro c b i h d
      rw [vstg_eq, (hin c).2.2.2.1]
      exact block4 c _ b i h d
    · intro c n e
      rw [wostg_eq, (hin c).2.2.2.2]
    · intro c b i e
      rw [xstg_eq]
      exact real_x _ _ _ _ _ (hpre c).1 b i e
    · intro c e n
      rw [wqstg_eq]
      exact real_wq _ _ _ _ _ (hpre c).2.1 e n
    · intro c b i h d
      rw [kstg_eq]
      exact real_k _ _ _ _ _ (hpre c).2.2 b i h d
  · exact (θ_run Cert.ReferenceIdeal.defs _ _).mono (fun _ h => h 0) (Cert.ReferenceIdeal.Value.run (F := Ideal) m' g')

end Cert.Halo
-- ==== Proof.lean ====
/-
# The certificate's claim

Put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts,
  Cert.Halo.preFactsK, Cert.Halo.preFactsR, Cert.Halo.frame_k, Cert.Halo.frame_ki, Cert.Halo.frame_ki_pre,
  Cert.Halo.frame_ri, Cert.Halo.frame_ri_pre, Cert.Halo.mask_named, Cert.Halo.algebraic⟩

end Cert.Proof

end
